-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x256x1536 : Shape := ⟨3, ![5, 256, 1536]⟩
abbrev S5x256x4608 : Shape := ⟨3, ![5, 256, 4608]⟩
abbrev S_ : Shape := ⟨0, ![]⟩
abbrev S1536x4608 : Shape := ⟨2, ![1536, 4608]⟩
abbrev S4608 : Shape := ⟨1, ![4608]⟩
abbrev S1x1 : Shape := ⟨2, ![1, 1]⟩
abbrev S1280x1536 : Shape := ⟨2, ![1280, 1536]⟩
abbrev S1280x4608 : Shape := ⟨2, ![1280, 4608]⟩
abbrev S1x4608 : Shape := ⟨2, ![1, 4608]⟩
abbrev S1280x512 : Shape := ⟨2, ![1280, 512]⟩
abbrev S1536x512 : Shape := ⟨2, ![1536, 512]⟩
abbrev S1x512 : Shape := ⟨2, ![1, 512]⟩
abbrev S1536x1280 : Shape := ⟨2, ![1536, 1280]⟩
abbrev S8x512 : Shape := ⟨2, ![8, 512]⟩
abbrev S512x1280 : Shape := ⟨2, ![512, 1280]⟩
abbrev S512x512 : Shape := ⟨2, ![512, 512]⟩
abbrev S64x8x512 : Shape := ⟨3, ![64, 8, 512]⟩
abbrev S512 : Shape := ⟨1, ![512]⟩

abbrev nBuf : Space → Nat
  | .hbm => 20
  | .vmem => 21
  | .smem => 1
  | _ => 0

abbrev bufTy : (tb : Table) → Fin (tcTables nBuf tb) → BufTy
  | .hbm, ⟨0, _⟩ => ⟨S5x256x1536, .bf16⟩
  | .hbm, ⟨1, _⟩ => ⟨S5x256x4608, .fp8e5m2⟩
  | .hbm, ⟨2, _⟩ => ⟨S_, .f32⟩
  | .hbm, ⟨3, _⟩ => ⟨S1536x4608, .f32⟩
  | .hbm, ⟨4, _⟩ => ⟨S4608, .f32⟩
  | .hbm, ⟨5, _⟩ => ⟨S4608, .f32⟩
  | .hbm, ⟨6, _⟩ => ⟨S4608, .f32⟩
  | .hbm, ⟨7, _⟩ => ⟨S1x1, .f32⟩
  | .hbm, ⟨8, _⟩ => ⟨S1280x1536, .bf16⟩
  | .hbm, ⟨9, _⟩ => ⟨S1280x4608, .fp8e5m2⟩
  | .hbm, ⟨10, _⟩ => ⟨S1x4608, .f32⟩
  | .hbm, ⟨11, _⟩ => ⟨S1x4608, .f32⟩
  | .hbm, ⟨12, _⟩ => ⟨S1x4608, .f32⟩
  | .hbm, ⟨13, _⟩ => ⟨S1280x1536, .bf16⟩
  | .hbm, ⟨14, _⟩ => ⟨S1536x4608, .f32⟩
  | .hbm, ⟨15, _⟩ => ⟨S1x4608, .f32⟩
  | .hbm, ⟨16, _⟩ => ⟨S1x4608, .f32⟩
  | .hbm, ⟨17, _⟩ => ⟨S5x256x1536, .bf16⟩
  | .hbm, ⟨18, _⟩ => ⟨S4608, .f32⟩
  | .hbm, ⟨19, _⟩ => ⟨S4608, .f32⟩
  | .local _ .vmem, ⟨0, _⟩ => ⟨S1280x1536, .bf16⟩
  | .local _ .vmem, ⟨1, _⟩ => ⟨S1280x512, .fp8e5m2⟩
  | .local _ .vmem, ⟨2, _⟩ => ⟨S1280x512, .fp8e5m2⟩
  | .local _ .vmem, ⟨3, _⟩ => ⟨S1536x512, .f32⟩
  | .local _ .vmem, ⟨4, _⟩ => ⟨S1536x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1280x1536, .bf16⟩
  | .local _ .vmem, ⟨12, _⟩ => ⟨S1536x512, .f32⟩
  | .local _ .vmem, ⟨13, _⟩ => ⟨S1536x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1536x1280, .bf16⟩
  | .local _ .vmem, ⟨19, _⟩ => ⟨S1280x1536, .f32⟩
  | .local _ .vmem, ⟨20, _⟩ => ⟨S1536x512, .bf16⟩
  | .local _ .smem, ⟨0, _⟩ => ⟨S1x1, .f32⟩
  | _, _ => ⟨S5x256x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v159 : BitVec 1 := Scalar.cmpi .eq arg0 c8_i32
  let v160 : BitVec 32 := Scalar.extui v159
  let c0_i32_74 : BitVec 32 := 0#32
  let v161 : BitVec 1 := Scalar.cmpi .ne v160 c0_i32_74
  v161

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x512 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1280x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1536x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S5x256x1536 : Shape := ⟨3, ![5, 256, 1536]⟩
abbrev S5x256x4608 : Shape := ⟨3, ![5, 256, 4608]⟩
abbrev S_ : Shape := ⟨0, ![]⟩
abbrev S1536x4608 : Shape := ⟨2, ![1536, 4608]⟩
abbrev S4608 : Shape := ⟨1, ![4608]⟩
abbrev S1x4608 : Shape := ⟨2, ![1, 4608]⟩

abbrev nBuf : Space → Nat
  | .hbm => 54
  | .vmem => 2
  | .smem => 0
  | _ => 0

abbrev bufTy : (tb : Table) → Fin (tcTables nBuf tb) → BufTy
  | .hbm, ⟨0, _⟩ => ⟨S5x256x1536, .bf16⟩
  | .hbm, ⟨1, _⟩ => ⟨S5x256x4608, .fp8e5m2⟩
  | .hbm, ⟨2, _⟩ => ⟨S_, .f32⟩
  | .hbm, ⟨3, _⟩ => ⟨S1536x4608, .f32⟩
  | .hbm, ⟨4, _⟩ => ⟨S4608, .f32⟩
  | .hbm, ⟨5, _⟩ => ⟨S4608, .f32⟩
  | .hbm, ⟨6, _⟩ => ⟨S4608, .f32⟩
  | .hbm, ⟨7, _⟩ => ⟨S1x4608, .f32⟩
  | .hbm, ⟨8, _⟩ => ⟨S1536x4608, .f32⟩
  | .hbm, ⟨9, _⟩ => ⟨S1536x4608, .i1⟩
  | .hbm, ⟨10, _⟩ => ⟨S1x4608, .f32⟩
  | .hbm, ⟨11, _⟩ => ⟨S1x4608, .f32⟩
  | .hbm, ⟨12, _⟩ => ⟨S1536x4608, .f32⟩
  | .hbm, ⟨13, _⟩ => ⟨S1536x4608, .i1⟩
  | .hbm, ⟨14, _⟩ => ⟨S5x256x4608, .bf16⟩
  | .hbm, ⟨15, _⟩ => ⟨S1536x4608, .f32⟩
  | .hbm, ⟨16, _⟩ => ⟨S1536x4608, .f32⟩
  | .hbm, ⟨17, _⟩ => ⟨S1536x4608, .f32⟩
  | .hbm, ⟨18, _⟩ => ⟨S1x4608, .f32⟩
  | .hbm, ⟨19, _⟩ => ⟨S1536x4608, .f32⟩
  | .hbm, ⟨20, _⟩ => ⟨S1536x4608, .f32⟩
  | .hbm, ⟨21, _⟩ => ⟨S1x4608, .f32⟩
  | .hbm, ⟨22, _⟩ => ⟨S1536x4608, .f32⟩
  | .hbm, ⟨23, _⟩ => ⟨S1536x4608, .f32⟩
  | .hbm, ⟨24, _⟩ => ⟨S1536x4608, .f32⟩
  | .hbm, ⟨25, _⟩ => ⟨S1536x4608, .f32⟩
  | .hbm, ⟨26, _⟩ => ⟨S_, .f32⟩
  | .hbm, ⟨27, _⟩ => ⟨S_, .f32⟩
  | .hbm, ⟨28, _⟩ => ⟨S1536x4608, .f32⟩
  | .hbm, ⟨29, _⟩ => ⟨S1536x4608, .f32⟩
  | .hbm, ⟨30, _⟩ => ⟨S_, .f32⟩
  | .hbm, ⟨31, _⟩ => ⟨S4608, .f32⟩
  | .hbm, ⟨32, _⟩ => ⟨S_, .f32⟩
  | .hbm, ⟨33, _⟩ => ⟨S_, .f32⟩
  | .hbm, ⟨34, _⟩ => ⟨S1536x4608, .f32⟩
  | .hbm, ⟨35, _⟩ => ⟨S1536x4608, .f32⟩
  | .hbm, ⟨36, _⟩ => ⟨S_, .f32⟩
  | .hbm, ⟨37, _⟩ => ⟨S4608, .f32⟩
  | .hbm, ⟨38, _⟩ => ⟨S4608, .f32⟩
  | .hbm, ⟨39, _⟩ => ⟨S1x4608, .f32⟩
  | .hbm, ⟨40, _⟩ => ⟨S1x4608, .f32⟩
  | .hbm, ⟨41, _⟩ => ⟨S1x4608, .f32⟩
  | .hbm, ⟨42, _⟩ => ⟨S_, .f32⟩
  | .hbm, ⟨43, _⟩ => ⟨S_, .f32⟩
  | .hbm, ⟨44, _⟩ => ⟨S1536x4608, .f32⟩
  | .hbm, ⟨45, _⟩ => ⟨S1536x4608, .f32⟩
  | .hbm, ⟨46, _⟩ => ⟨S1536x4608, .f32⟩
  | .hbm, ⟨47, _⟩ => ⟨S1536x4608, .f32⟩
  | .hbm, ⟨48, _⟩ => ⟨S1536x4608, .f32⟩
  | .hbm, ⟨49, _⟩ => ⟨S1536x4608, .bf16⟩
  | .hbm, ⟨50, _⟩ => ⟨S5x256x1536, .f32⟩
  | .hbm, ⟨51, _⟩ => ⟨S5x256x1536, .f32⟩
  | .hbm, ⟨52, _⟩ => ⟨S5x256x1536, .f32⟩
  | .hbm, ⟨53, _⟩ => ⟨S5x256x1536, .bf16⟩
  | .local _ .vmem, ⟨0, _⟩ => ⟨S5x256x4608, .fp8e5m2⟩
  | .local _ .vmem, ⟨1, _⟩ => ⟨S5x256x4608, .bf16⟩
  | _, _ => ⟨S5x256x1536, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_call2_v0 : Ref sig .tc := ⟨.hbm, 27, rfl⟩
abbrev main_call2_v1 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_cst_1 : Ref sig .tc := ⟨.hbm, 32, rfl⟩
abbrev main_call3_v0 : Ref sig .tc := ⟨.hbm, 33, rfl⟩
abbrev main_call3_v1 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_v27 : Ref sig .tc := ⟨.hbm, 46, rfl⟩
abbrev main_call5_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S5x256x4608 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x256x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Spec.lean ====
/-
  The four results of the ternary layer's backward pass, written entry by entry over the extended reals. Both programs
  are shown to compute these functions of the seven arguments.
-/
module

public import Idealize.ShloMosaic.PureOps.Ideal
public import Idealize.ShloMosaic.PureOps.Ideal.Laws
public import Idealize.ShloMosaic.Lib.Pointwise

@[expose] public section

noncomputable section

namespace Cert.Spec

open Idealize.ShloMosaic

/-- Scalars of extended reals. -/
abbrev A0 := (⟨0, ![]⟩ : Shape).Idx → EReal
/-- Vectors of extended reals. -/
abbrev A1 (a : ℕ) := (⟨1, ![a]⟩ : Shape).Idx → EReal
/-- Matrices of extended reals. -/
abbrev A2 (a b : ℕ) := (⟨2, ![a, b]⟩ : Shape).Idx → EReal
/-- Arrays of three axes of extended reals. -/
abbrev A3 (a b c : ℕ) := (⟨3, ![a, b, c]⟩ : Shape).Idx → EReal

/-- The dense gradient of the ternary weights: `x` against `dy` over all 5 × 256 tokens, times the scale. -/
def grad (x : A3 5 256 1536) (dy : A3 5 256 4608) (s : EReal) (r : Fin 1536) (j : Fin 4608) : EReal :=
  (∑ b : Fin 5, ∑ t : Fin 256, x (ix3 b t r) * dy (ix3 b t j)) * s

/-- Does the latent weight lie above its column's threshold? -/
def pos (w : A2 1536 4608) (d : A1 4608) (r : Fin 1536) (j : Fin 4608) : BitVec 1 :=
  Ideal.cmp .ogt (w (ix2 r j)) (d (ix1 j))

/-- Does it lie below minus the threshold? -/
def neg (w : A2 1536 4608) (d : A1 4608) (r : Fin 1536) (j : Fin 4608) : BitVec 1 :=
  Ideal.cmp .olt (w (ix2 r j)) (-(d (ix1 j)))

/-- The latent weights' gradient: the dense gradient times the positive scale above the threshold, times the negative
    scale below minus it, and as it is in between. -/
def dw (x : A3 5 256 1536) (dy : A3 5 256 4608) (s : EReal) (w : A2 1536 4608) (d p n : A1 4608)
    (r : Fin 1536) (j : Fin 4608) : EReal :=
  if pos w d r j = 1 then p (ix1 j) * grad x dy s r j
  else if neg w d r j = 1 then n (ix1 j) * grad x dy s r j else grad x dy s r j

/-- The positive scales' gradient: the column's sum over the weights above the threshold. -/
def dwp (x : A3 5 256 1536) (dy : A3 5 256 4608) (s : EReal) (w : A2 1536 4608) (d : A1 4608) (j : Fin 4608) : EReal :=
  ∑ r : Fin 1536, if pos w d r j = 1 then grad x dy s r j else 0

/-- The negative scales' gradient: minus the column's sum over the weights below minus the threshold. -/
def dwn (x : A3 5 256 1536) (dy : A3 5 256 4608) (s : EReal) (w : A2 1536 4608) (d : A1 4608) (j : Fin 4608) : EReal :=
  -∑ r : Fin 1536, if neg w d r j = 1 then grad x dy s r j else 0

/-- The ternary weight. -/
def wt (w : A2 1536 4608) (d p n : A1 4608) (r : Fin 1536) (j : Fin 4608) : EReal :=
  if pos w d r j = 1 then p (ix1 j) else if neg w d r j = 1 then -(n (ix1 j)) else 0

/-- The inputs' gradient: `dy` against the ternary weights over all 4608 columns, times the scale. -/
def dx (dy : A3 5 256 4608) (s : EReal) (w : A2 1536 4608) (d p n : A1 4608) (b : Fin 5) (t : Fin 256) (r : Fin 1536) : EReal :=
  (∑ j : Fin 4608, dy (ix3 b t j) * wt w d p n r j) * s

/-! The four results as whole arrays. -/

/-- The inputs' gradient. -/
def DX (dy : A3 5 256 4608) (s : A0) (w : A2 1536 4608) (d p n : A1 4608) : A3 5 256 1536 :=
  fun i => dx dy (s ix0) w d p n (i 0) (i 1) (i 2)

/-- The latent weights' gradient. -/
def DW (x : A3 5 256 1536) (dy : A3 5 256 4608) (s : A0) (w : A2 1536 4608) (d p n : A1 4608) : A2 1536 4608 :=
  fun i => dw x dy (s ix0) w d p n (i 0) (i 1)

/-- The positive scales' gradient. -/
def DWP (x : A3 5 256 1536) (dy : A3 5 256 4608) (s : A0) (w : A2 1536 4608) (d : A1 4608) : A1 4608 :=
  fun i => dwp x dy (s ix0) w d (i 0)

/-- The negative scales' gradient. -/
def DWN (x : A3 5 256 1536) (dy : A3 5 256 4608) (s : A0) (w : A2 1536 4608) (d : A1 4608) : A1 4608 :=
  fun i => dwn x dy (s ix0) w d (i 0)

end Cert.Spec

end
-- ==== Proof.RefValue.lean ====
/-
  The reference at the extended reals: its four results are the functions of Spec.lean.
-/
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.RefValue

open Cert.ReferenceIdeal Cert.ReferenceIdeal.Gen Idealize.ShloMosaic Idealize.ShloMosaic.TcCoe Idealize.SL.Sem
open Cert.ReferenceIdeal.Read

variable (m : (ℓ : Loc nD τ sig) → Buf (Elt Ideal) ℓ)

/-- The whole-array rectangle of the cast's one load and one store starts at zero. -/
theorem hz3 : (![0, 0, 0] : Fin 3 → Nat) = fun _ => 0 := funext fun a => by fin_cases a <;> rfl

/-- The cast leaves its operand: over the extended reals a change of float format changes nothing. -/
theorem out_id (x : Vec Ideal S5x256x4608 .fp8e5m2) : out0_1 (F := Ideal) x = x := by
  unfold out0_1
  rw [View.canon_unit_zero (S := S5x256x4608) hz3, View.ld_unit_zero (S := S5x256x4608) hz3]
  rfl

/-- So the region leaves `main_v7` holding argument 1. -/
theorem reg_eq (c : Dev nD) : (Value.reg_main_v7 m c : Spec.A3 5 256 4608) = m ((c.tc : Thread nD τ).loc main_arg1) := by
  refine (dats m 0 c).arrAt_eq_of_cover 1 (m ((c.tc : Thread nD τ).loc main_arg1)) (fun t _ => ?_) fun i => ⟨t0_0, flush0_1 _, ?_⟩
  · show (cfg0.win 1).cut (grid0.coords t) ((dats m 0 c).after 1 t) = _
    rw [after0_1, out_id]
    unfold iblk
    rw [show V m c (Pipeline.arrRef spec0 0) = m ((c.tc : Thread nD τ).loc main_arg1) from V_main_arg1 m c]
    rfl
  · show i ∈ ((View.whole main_v7).slice (win0_1.rect t0_0)).set
    rw [View.set_slice_whole, Rect.mem_set_unit]
    have e : ∀ a, win0_1.index t0_0 a * win0_1.size a = 0 ∧ win0_1.xsize (grid0.coords t0_0) a = S5x256x4608.size a := by
      decide +kernel
    intro a
    show win0_1.index t0_0 a * win0_1.size a ≤ (i a : Nat) ∧ (i a : Nat) < win0_1.index t0_0 a * win0_1.size a + win0_1.xsize (grid0.coords t0_0) a
    rw [(e a).1, (e a).2, Nat.zero_add]
    exact ⟨Nat.zero_le _, (i a).isLt⟩

/-- The dense gradient's contraction over both token axes, read at an entry. -/
theorem v8_apply (x : Spec.A3 5 256 1536) (dy : Spec.A3 5 256 4608) (r : Fin 1536) (j : Fin 4608) :
    val_main_v8 (F := Ideal) x dy (ix2 r j) = ∑ b : Fin 5, ∑ t : Fin 256, x (ix3 b t r) * dy (ix3 b t j) := by
  pointwise [val_main_v8]

/-- The mask of the weights above their threshold, and of those below minus it, as the reference computes them. -/
abbrev posM (w : Spec.A2 1536 4608) (d : Spec.A1 4608) : IVec S1536x4608 1 :=
  cmpf (F := Ideal) (φ := .f32) .ogt w (broadcastInDim S1536x4608 ![0, 1] bcast_S1x4608_S1536x4608_0_1 (broadcastInDim S1x4608 ![1] bcast_S4608_S1x4608_1 d))
/-- The lower mask as the reference computes it. -/
abbrev negM (w : Spec.A2 1536 4608) (d : Spec.A1 4608) : IVec S1536x4608 1 :=
  cmpf (F := Ideal) (φ := .f32) .olt w (broadcastInDim S1536x4608 ![0, 1] bcast_S1x4608_S1536x4608_0_1 (Host.negf (F := Ideal) (φ := .f32) (broadcastInDim S1x4608 ![1] bcast_S4608_S1x4608_1 d)))

variable (x : Spec.A3 5 256 1536) (dy : Spec.A3 5 256 4608) (s : S_.Idx → EReal) (w : Spec.A2 1536 4608) (d p n : Spec.A1 4608)

/-- The masks at an entry. -/
theorem posM_apply (r : Fin 1536) (j : Fin 4608) : posM w d (ix2 r j) = Spec.pos w d r j := by
  pointwise [posM, Spec.pos]
/-- The lower mask at an entry. -/
theorem negM_apply (r : Fin 1536) (j : Fin 4608) : negM w d (ix2 r j) = Spec.neg w d r j := by
  pointwise [negM, Spec.neg]

/-- The scaled dense gradient at an entry. -/
theorem v10_apply (r : Fin 1536) (j : Fin 4608) :
    val_main_v10 (F := Ideal) x s dy (ix2 r j) = Spec.grad x dy (s ix0) r j := by
  rw [val_main_v10_apply, v8_apply]
  pointwise [val_main_v9, Spec.grad]

/-- The latent weights' gradient at an entry. -/
theorem v18_apply (r : Fin 1536) (j : Fin 4608) :
    val_main_v18 (F := Ideal) x s p n dy (negM w d) (posM w d) (ix2 r j) = Spec.dw x dy (s ix0) w d p n r j := by
  rw [val_main_v18_apply, val_main_v17_apply, val_main_v13_apply, val_main_v16_apply, v10_apply, posM_apply, negM_apply]
  pointwise [val_main_v12, val_main_v11, val_main_v15, val_main_v14, Spec.dw, Scalar.select, id]

/-- The positive scales' gradient at a column. -/
theorem v20_apply (j : Fin 4608) :
    val_main_v20 (F := Ideal) x s dy (posM w d) (ix1 j) = Spec.dwp x dy (s ix0) w d j := by
  rw [val_main_v20_apply]
  have e : ∀ k : Fin 1536, idx_main_v20 (ix1 j) k = ix2 k j := fun k => funext fun a => by match a with | ⟨0, _⟩ => rfl | ⟨1, _⟩ => rfl
  simp only [e, val_main_v19_apply, v10_apply, posM_apply]
  pointwise [val_main_cst_0, val_main_call2_v1, val_main_call2_v0, val_main_cst, Spec.dwp, Scalar.select, id]

/-- The negative scales' gradient at a column. -/
theorem v23_apply (j : Fin 4608) :
    val_main_v23 (F := Ideal) x s dy (negM w d) (ix1 j) = Spec.dwn x dy (s ix0) w d j := by
  rw [val_main_v23_apply, val_main_v22_apply]
  have e : ∀ k : Fin 1536, idx_main_v22 (ix1 j) k = ix2 k j := fun k => funext fun a => by match a with | ⟨0, _⟩ => rfl | ⟨1, _⟩ => rfl
  simp only [e, val_main_v21_apply, v10_apply, negM_apply]
  pointwise [val_main_cst_2, val_main_call3_v1, val_main_call3_v0, val_main_cst_1, Spec.dwn, Scalar.select, id]

/-- The ternary weight at an entry. -/
theorem v29_apply (r : Fin 1536) (j : Fin 4608) :
    val_main_v29 (F := Ideal) p n (negM w d) (posM w d) (ix2 r j) = Spec.wt w d p n r j := by
  rw [val_main_v29_apply, val_main_v28_apply, val_main_v27_apply, posM_apply, negM_apply]
  pointwise [val_main_call5_v0, val_main_v24, val_main_call4_v1, val_main_v26, val_main_v25, val_main_call4_v2, val_main_call4_v0, val_main_cst_3, Spec.wt, Scalar.select, id]

/-- The inputs' gradient at an entry. -/
theorem v33_apply (b : Fin 5) (t : Fin 256) (r : Fin 1536) :
    val_main_v33 (F := Ideal) s p n dy (negM w d) (posM w d) (ix3 b t r) = Spec.dx dy (s ix0) w d p n b t r := by
  rw [val_main_v33_apply, val_main_v32_apply, val_main_v30_apply]
  have el : ∀ k : Fin 4608, lidx_main_v30 (ix3 b t r) k = ix3 b t k := fun k => funext fun a => by match a with | ⟨0, _⟩ => rfl | ⟨1, _⟩ => rfl | ⟨2, _⟩ => rfl
  have er : ∀ k : Fin 4608, ridx_main_v30 (ix3 b t r) k = ix2 r k := fun k => funext fun a => by match a with | ⟨0, _⟩ => rfl | ⟨1, _⟩ => rfl
  simp only [el, er, v29_apply]
  pointwise [val_main_v31, Spec.dx]

variable (ρ : Dev nD → PrngReg)

/-- The reference's run: its four results are the four functions of the arguments, and the arguments are unchanged. -/
theorem run : θ_run defs (onTc (τ := τ) (main (F := Ideal))) ⟨m, fun _ => 0, ρ⟩ fun r => ∀ c : Dev nD,
      r.2.mem ((c.tc : Thread nD τ).loc main_v33) = Spec.DX (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v18) = Spec.DW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v20) = Spec.DWP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v23) = Spec.DWN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (Value.run m ρ)
  obtain ⟨h0, h1, h2, h3, ha⟩ := h c
  rw [reg_eq m c] at h0 h1 h2 h3
  refine ⟨h0.trans (funext fun i => ?_), h1.trans (funext fun i => ?_), h2.trans (funext fun i => ?_),
    h3.trans (funext fun i => ?_), ha⟩
  · exact (congrArg _ (ix3_eta i).symm).trans (v33_apply _ _ _ _ _ _ (i 0) (i 1) (i 2))
  · exact (congrArg _ (ix2_eta i).symm).trans (v18_apply _ _ _ _ _ _ _ (i 0) (i 1))
  · exact (congrArg _ (ix1_eta i).symm).trans (v20_apply _ _ _ _ _ (i 0))
  · exact (congrArg _ (ix1_eta i).symm).trans (v23_apply _ _ _ _ _ (i 0))

end Cert.ReferenceIdeal.RefValue

end
-- ==== Proof.KBody.lean ====
/-
  What one grid point of the kernel leaves in its buffers, as functions of the blocks it reads: the generated frame's
  recursion over the points (`outsAt0`) with each case's found pieces opened.
-/
module

public import proofs.«01_k».proof.Proof.Gen.KernelIdeal.Frame
public import Idealize.ShloMosaic.Lib.Pipeline.Value

@[expose] public section

set_option maxRecDepth 16384

noncomputable section

namespace Cert.KernelIdeal.KValue

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Whole-array rectangles start at zero. -/
theorem hz : (![0, 0] : Fin 2 → Nat) = fun _ => 0 := funext fun a => by fin_cases a <;> rfl

/-- The scale, read off its one-entry block. -/
def sc (s : Vec F S1x1 .f32) : Elt F .f32 :=
  View.ld s (Rect.unit (s := S1x1) ![0, 0] S1x1.size inb_S1x1_S1x1_0_0) (Shape.Idx.first (s := (Rect.unit (s := S1x1) ![0, 0] S1x1.size inb_S1x1_S1x1_0_0).shape) (by decide))

/-- The first 512 rows of the transposed inputs. -/
def xt0 (x : Vec F S1536x1280 .bf16) : Vec F S512x1280 .bf16 := View.ld x (Rect.unit (s := S1536x1280) ![0, 0] S512x1280.size inb_S1536x1280_S512x1280_0_0)
/-- The second 512 rows of the transposed inputs. -/
def xt1 (x : Vec F S1536x1280 .bf16) : Vec F S512x1280 .bf16 := View.ld x (Rect.unit (s := S1536x1280) ![512, 0] S512x1280.size inb_S1536x1280_S512x1280_512_0)
/-- The last 512 rows of the transposed inputs. -/
def xt2 (x : Vec F S1536x1280 .bf16) : Vec F S512x1280 .bf16 := View.ld x (Rect.unit (s := S1536x1280) ![1024, 0] S512x1280.size inb_S1536x1280_S512x1280_1024_0)
/-- The first 512 rows of a block of latent weights. -/
def w0 (w : Vec F S1536x512 .f32) : Vec F S512x512 .f32 := View.ld w (Rect.unit (s := S1536x512) ![0, 0] S512x512.size inb_S1536x512_S512x512_0_0)
/-- The second 512 rows of a block of latent weights. -/
def w1 (w : Vec F S1536x512 .f32) : Vec F S512x512 .f32 := View.ld w (Rect.unit (s := S1536x512) ![512, 0] S512x512.size inb_S1536x512_S512x512_512_0)
/-- The last 512 rows of a block of latent weights. -/
def w2 (w : Vec F S1536x512 .f32) : Vec F S512x512 .f32 := View.ld w (Rect.unit (s := S1536x512) ![1024, 0] S512x512.size inb_S1536x512_S512x512_1024_0)

/-- The latent weights' gradient block: its three chunks' stores, last first. -/
def bDW (s : Elt F .f32) (dy : Vec F S1280x512 .fp8e5m2) (w : Vec F S1536x512 .f32) (d p n : Vec F S1x512 .f32) (x : Vec F S1536x1280 .bf16) :
    Vec F S1536x512 .f32 :=
  View.canon [⟨Rect.unit (s := S1536x512) ![1024, 0] S512x512.size inb_S1536x512_S512x512_1024_0,
      k0_pay29 (k0_pay25 s (k0_pay5 dy) (xt2 x)) (k0_pay28 (k0_pay6 d) (k0_pay7 p) (k0_pay8 n) (w2 w))⟩,
    ⟨Rect.unit (s := S1536x512) ![512, 0] S512x512.size inb_S1536x512_S512x512_512_0,
      k0_pay21 s (k0_pay5 dy) (k0_pay6 d) (k0_pay7 p) (k0_pay8 n) (xt1 x) (w1 w)⟩,
    ⟨Rect.unit (s := S1536x512) ![0, 0] S512x512.size inb_S1536x512_S512x512_0_0, k0_pay14 s dy d p n (xt0 x) (w0 w)⟩]

/-- The ternary weights' block, likewise. -/
def bWT (w : Vec F S1536x512 .f32) (d p n : Vec F S1x512 .f32) : Vec F S1536x512 .bf16 :=
  View.canon [⟨Rect.unit (s := S1536x512) ![1024, 0] S512x512.size inb_S1536x512_S512x512_1024_0,
      k0_pay30 (k0_pay7 p) (k0_pay8 n) (k0_pay26 (k0_pay6 d) (w2 w)) (k0_pay27 (k0_pay6 d) (w2 w))⟩,
    ⟨Rect.unit (s := S1536x512) ![512, 0] S512x512.size inb_S1536x512_S512x512_512_0,
      k0_pay22 (k0_pay7 p) (k0_pay8 n) (k0_pay19 (k0_pay6 d) (w1 w)) (k0_pay20 (k0_pay6 d) (w1 w))⟩,
    ⟨Rect.unit (s := S1536x512) ![0, 0] S512x512.size inb_S1536x512_S512x512_0_0,
      k0_pay15 (k0_pay7 p) (k0_pay8 n) (k0_pay12 d (w0 w)) (k0_pay13 d (w0 w))⟩]

/-- The positive scales' gradient row. -/
def bDWP (s : Elt F .f32) (dy : Vec F S1280x512 .fp8e5m2) (w : Vec F S1536x512 .f32) (d : Vec F S1x512 .f32) (x : Vec F S1536x1280 .bf16) :
    Vec F S1x512 .f32 :=
  k0_pay31 (k0_pay23 (k0_pay16 k0_pay9 (k0_pay11 s dy (xt0 x)) (k0_pay12 d (w0 w))) (k0_pay18 s (k0_pay5 dy) (xt1 x)) (k0_pay19 (k0_pay6 d) (w1 w)))
    (k0_pay25 s (k0_pay5 dy) (xt2 x)) (k0_pay26 (k0_pay6 d) (w2 w))

/-- The negative scales' gradient row. -/
def bDWN (s : Elt F .f32) (dy : Vec F S1280x512 .fp8e5m2) (w : Vec F S1536x512 .f32) (d : Vec F S1x512 .f32) (x : Vec F S1536x1280 .bf16) :
    Vec F S1x512 .f32 :=
  k0_pay32 (k0_pay24 (k0_pay17 k0_pay10 (k0_pay11 s dy (xt0 x)) (k0_pay13 d (w0 w))) (k0_pay18 s (k0_pay5 dy) (xt1 x)) (k0_pay20 (k0_pay6 d) (w1 w)))
    (k0_pay25 s (k0_pay5 dy) (xt2 x)) (k0_pay27 (k0_pay6 d) (w2 w))

/-- One step of the accumulator: what it held plus `dy` against the ternary weights' block. -/
def bAcc (dy : Vec F S1280x512 .fp8e5m2) (w : Vec F S1536x512 .f32) (d p n : Vec F S1x512 .f32) (acc : Vec F S1280x1536 .f32) : Vec F S1280x1536 .f32 :=
  k0_pay1 (k0_pay5 dy) acc (bWT w d p n)

/-- A load through a rectangle of what one covering store left reads the stored array through that rectangle. -/
theorem readCov_store {e : EltTy} {S : Shape} {sp : Space} (v : View sig Kind.tc sp S e) {off : Fin S.rank → Nat} (h : off = fun _ => 0)
    (inb : ∀ a, off a + S.size a ≤ S.size a) (X : S.Idx → Elt F e) (r : Rect S) :
    v.readCov [(⟨Rect.unit off S.size inb, X⟩ : View.Piece (Elt F) S e)] r.toLoadRect = View.ld X r := by
  rw [View.readCov_eq_canon', View.canon_unit_zero h]

/-- A load of the whole array of what stores left reads what they left. -/
theorem readCov_all {e : EltTy} {S : Shape} {sp : Space} (v : View sig Kind.tc sp S e) {off : Fin S.rank → Nat} (h : off = fun _ => 0)
    (inb : ∀ a, off a + S.size a ≤ S.size a) (L : List (View.Piece (Elt F) S e)) :
    v.readCov L (Rect.unit off S.size inb).toLoadRect = View.canon L := by
  rw [View.readCov_eq_canon']
  exact View.ld_unit_zero h inb (View.canon L)

/-- What a point leaves in the windows it writes every time and in the accumulator, from the transposed inputs `x` and the
    accumulator `acc` it works on. -/
def pt (s : Vec F S1x1 .f32) (dy : Vec F S1280x512 .fp8e5m2) (w : Vec F S1536x512 .f32) (d p n : Vec F S1x512 .f32)
    (x : Vec F S1536x1280 .bf16) (acc : Vec F S1280x1536 .f32) :
    Vec F S1536x512 .f32 × Vec F S1x512 .f32 × Vec F S1x512 .f32 × Vec F S1536x1280 .bf16 × Vec F S1280x1536 .f32 :=
  (bDW (sc s) dy w d p n x, bDWP (sc s) dy w d x, bDWN (sc s) dy w d x, x, bAcc dy w d p n acc)

/-- At the first point the inputs are transposed and the accumulator starts from zero. -/
theorem outs_A (c : Dev nD) (t : Fin cfg0.N) (h0 : t.val % 9 = 0) (h1 : ¬t.val % 9 = 8) :
    (outsAt0 m c t.val t.isLt).2 = pt (iblk m c 0 t) (iblk m c 2 t) (iblk m c 3 t) (iblk m c 4 t) (iblk m c 5 t) (iblk m c 6 t)
      (k0_pay3 (iblk m c 1 t)) k0_pay4 := by
  rw [outsAt0_A m c t h0 h1]
  dsimp only
  unfold out0_A_8 out0_A_9 out0_A_10 sout0_A_0 sout0_A_1
  refine congrArg₂ Prod.mk ((View.read_writes_eq_canon _ _ _ (fun _ => cover0_A_8 ..)).trans ?_) (congrArg₂ Prod.mk ((View.read_writes_eq_canon _ _ _ (fun _ => cover0_A_9 ..)).trans ?_)
    (congrArg₂ Prod.mk ((View.read_writes_eq_canon _ _ _ (fun _ => cover0_A_10 ..)).trans ?_) (congrArg₂ Prod.mk
      ((View.read_writes_eq_canon _ _ _ (fun _ => scover0_A_0 ..)).trans ?_) ((View.read_writes_eq_canon _ _ _ (fun _ => scover0_A_1 ..)).trans ?_))))
  all_goals
    unfold kernelRun0_A
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, View.ld_unit_zero (S := S1x512) hz,
      View.ld_unit_zero (S := S1280x512) hz, View.ld_unit_zero (S := S1280x1536) hz, readCov_store (S := S1536x1280) _ hz,
      readCov_all (S := S1280x1536) _ hz, readCov_all (S := S1536x512) _ hz, View.canon_cons_unit_zero (S := S1x512) hz,
      View.canon_cons_unit_zero (S := S1280x1536) hz, View.canon_cons_unit_zero (S := S1536x1280) hz] <;> rfl

/-- At a point in the middle both carried scratches are what the point before left. -/
theorem outs_B (c : Dev nD) (t : Fin cfg0.N) (h0 : ¬t.val % 9 = 0) (h1 : ¬t.val % 9 = 8) :
    (outsAt0 m c t.val t.isLt).2 = pt (iblk m c 0 t) (iblk m c 2 t) (iblk m c 3 t) (iblk m c 4 t) (iblk m c 5 t) (iblk m c 6 t)
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  rw [outsAt0_B m c t h0 h1]
  generalize outsAt0 m c (t.val - 1) (Nat.lt_of_le_of_lt (Nat.sub_le _ _) t.isLt) = prev
  dsimp only
  unfold out0_B_8 out0_B_9 out0_B_10 sout0_B_0 sout0_B_1
  refine congrArg₂ Prod.mk ((View.read_writes_eq_canon _ _ _ (fun _ => cover0_B_8 ..)).trans ?_) (congrArg₂ Prod.mk ((View.read_writes_eq_canon _ _ _ (fun _ => cover0_B_9 ..)).trans ?_)
    (congrArg₂ Prod.mk ((View.read_writes_eq_canon _ _ _ (fun _ => cover0_B_10 ..)).trans ?_) (congrArg₂ Prod.mk rfl ((View.read_writes_eq_canon _ _ _ (fun _ => scover0_B_1 ..)).trans ?_))))
  all_goals
    unfold kernelRun0_B
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (Memref.isWhole_whole cc0_scratch0).read_unread,
      (Memref.isWhole_whole cc0_scratch1).read_unread, View.ld_unit_zero (S := S1x512) hz,
      View.ld_unit_zero (S := S1280x512) hz, View.ld_unit_zero (S := S1280x1536) hz, readCov_all (S := S1536x512) _ hz,
      View.canon_cons_unit_zero (S := S1x512) hz, View.canon_cons_unit_zero (S := S1280x1536) hz] <;> rfl

/-- At the last point too both carried scratches are what the point before left. -/
theorem outs_C (c : Dev nD) (t : Fin cfg0.N) (h0 : ¬t.val % 9 = 0) (h1 : t.val % 9 = 8) :
    (outsAt0 m c t.val t.isLt).2 = pt (iblk m c 0 t) (iblk m c 2 t) (iblk m c 3 t) (iblk m c 4 t) (iblk m c 5 t) (iblk m c 6 t)
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  rw [outsAt0_C m c t h0 h1]
  generalize outsAt0 m c (t.val - 1) (Nat.lt_of_le_of_lt (Nat.sub_le _ _) t.isLt) = prev
  dsimp only
  unfold out0_C_8 out0_C_9 out0_C_10 sout0_C_0 sout0_C_1
  refine congrArg₂ Prod.mk ((View.read_writes_eq_canon _ _ _ (fun _ => cover0_C_8 ..)).trans ?_) (congrArg₂ Prod.mk ((View.read_writes_eq_canon _ _ _ (fun _ => cover0_C_9 ..)).trans ?_)
    (congrArg₂ Prod.mk ((View.read_writes_eq_canon _ _ _ (fun _ => cover0_C_10 ..)).trans ?_) (congrArg₂ Prod.mk rfl ((View.read_writes_eq_canon _ _ _ (fun _ => scover0_C_1 ..)).trans ?_))))
  all_goals
    unfold kernelRun0_C
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (Memref.isWhole_whole cc0_scratch0).read_unread,
      (Memref.isWhole_whole cc0_scratch1).read_unread, View.ld_unit_zero (S := S1x512) hz,
      View.ld_unit_zero (S := S1280x512) hz, View.ld_unit_zero (S := S1280x1536) hz, readCov_all (S := S1536x512) _ hz,
      View.canon_cons_unit_zero (S := S1x512) hz, View.canon_cons_unit_zero (S := S1280x1536) hz] <;> rfl

/-- The last point stores the accumulator it has just stepped, scaled, as the inputs' gradient. -/
theorem out7_C (c : Dev nD) (t : Fin cfg0.N) (h0 : ¬t.val % 9 = 0) (h1 : t.val % 9 = 8) :
    (outsAt0 m c t.val t.isLt).1 = k0_pay2 (sc (iblk m c 0 t)) (bAcc (iblk m c 2 t) (iblk m c 3 t) (iblk m c 4 t) (iblk m c 5 t) (iblk m c 6 t)
      (outsAt0 m c (t.val - 1) (Nat.lt_of_le_of_lt (Nat.sub_le _ _) t.isLt)).2.2.2.2.2) := by
  rw [outsAt0_C m c t h0 h1]
  generalize outsAt0 m c (t.val - 1) (Nat.lt_of_le_of_lt (Nat.sub_le _ _) t.isLt) = prev
  dsimp only
  unfold out0_C_7
  refine (View.read_writes_eq_canon _ _ _ (fun _ => cover0_C_7 ..)).trans ?_
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (Memref.isWhole_whole cc0_scratch0).read_unread,
    (Memref.isWhole_whole cc0_scratch1).read_unread, View.ld_unit_zero (S := S1x512) hz,
    View.ld_unit_zero (S := S1280x512) hz, View.ld_unit_zero (S := S1280x1536) hz, readCov_all (S := S1536x512) _ hz, readCov_all (S := S1280x1536) _ hz,
    View.canon_cons_unit_zero (S := S1280x1536) hz] <;> rfl

end Cert.KernelIdeal.KValue

end
-- ==== Proof.KPoint.lean ====
/-
  What one grid point computes, entry by entry over the extended reals: the block functions of KBody.lean read at an
  index. The point works through its 512 columns in three chunks of 512 rows; the entries come out as if it worked
  on all 1536 rows at once.
-/
module

public import proofs.«01_k».proof.Proof.KBody
public import proofs.«01_k».proof.Proof.Spec
public import Idealize.ShloMosaic.Lib.Pointwise
public import Idealize.ShloMosaic.Lib.Pipeline.ValueKit.Tiles

@[expose] public section

set_option maxRecDepth 16384

noncomputable section

namespace Cert.KernelIdeal.KValue

open Cert.KernelIdeal Cert.KernelIdeal.Gen Idealize.ShloMosaic Idealize.ShloMosaic.TcCoe Idealize.SL.Sem

/-! Entries of one block, for a block of `R` rows. -/

/-- The masks and the dense gradient of a block. -/
def bPos {R : ℕ} (w : Spec.A2 R 512) (d : Spec.A2 1 512) (r : Fin R) (j : Fin 512) : BitVec 1 := Ideal.cmp .ogt (w (ix2 r j)) (d (ix2 0 j))
/-- Whether a latent weight of the block lies below minus its column's threshold. -/
def bNeg {R : ℕ} (w : Spec.A2 R 512) (d : Spec.A2 1 512) (r : Fin R) (j : Fin 512) : BitVec 1 := Ideal.cmp .olt (w (ix2 r j)) (-(d (ix2 0 j)))
/-- An entry of the block's latent gradient: the contraction over the tokens, scaled. -/
def bG {R : ℕ} (s : EReal) (dy : Spec.A2 1280 512) (x : Spec.A2 R 1280) (r : Fin R) (j : Fin 512) : EReal :=
  (∑ i : Fin 1280, x (ix2 r i) * dy (ix2 i j)) * s

/-- The latent weights' gradient and the ternary weight of a block. -/
def eDW {R : ℕ} (s : EReal) (dy : Spec.A2 1280 512) (w : Spec.A2 R 512) (d p n : Spec.A2 1 512) (x : Spec.A2 R 1280) (r : Fin R) (j : Fin 512) : EReal :=
  if bPos w d r j = 1 then p (ix2 0 j) * bG s dy x r j else if bNeg w d r j = 1 then n (ix2 0 j) * bG s dy x r j else bG s dy x r j
/-- An entry of the block's ternary weights. -/
def eWT {R : ℕ} (w : Spec.A2 R 512) (d p n : Spec.A2 1 512) (r : Fin R) (j : Fin 512) : EReal :=
  if bPos w d r j = 1 then p (ix2 0 j) else if bNeg w d r j = 1 then -(n (ix2 0 j)) else 0

/-! One chunk. -/

/-- A chunk's latent gradient at an entry. -/
theorem g_apply (s : EReal) (dy : Spec.A2 1280 512) (x : Spec.A2 512 1280) (r j : Fin 512) :
    k0_pay25 (F := Ideal) s dy x (ix2 r j) = bG s dy x r j := by
  pointwise [k0_pay25, bG]

/-- A chunk's upper mask at an entry. -/
theorem pos_apply (d : Spec.A2 1 512) (w : Spec.A2 512 512) (r j : Fin 512) : k0_pay26 (F := Ideal) d w (ix2 r j) = bPos w d r j := by
  pointwise [k0_pay26, bPos]

/-- A chunk's lower mask at an entry. -/
theorem neg_apply (d : Spec.A2 1 512) (w : Spec.A2 512 512) (r j : Fin 512) : k0_pay27 (F := Ideal) d w (ix2 r j) = bNeg w d r j := by
  pointwise [k0_pay27, bNeg, zero_sub]

/-- A chunk's weight gradient at an entry. -/
theorem dw_apply (s : EReal) (dy : Spec.A2 1280 512) (x : Spec.A2 512 1280) (d p n : Spec.A2 1 512) (w : Spec.A2 512 512) (r j : Fin 512) :
    k0_pay29 (F := Ideal) (k0_pay25 (F := Ideal) s dy x) (k0_pay28 (F := Ideal) d p n w) (ix2 r j) = eDW s dy w d p n x r j := by
  pointwise [k0_pay29, k0_pay28, g_apply, pos_apply, neg_apply, Scalar.select, id, eDW]
  split_ifs <;> simp only [one_mul]

/-- A chunk's ternary weights at an entry. -/
theorem wt_apply (d p n : Spec.A2 1 512) (w : Spec.A2 512 512) (r j : Fin 512) :
    k0_pay30 (F := Ideal) p n (k0_pay26 (F := Ideal) d w) (k0_pay27 (F := Ideal) d w) (ix2 r j) = eWT w d p n r j := by
  pointwise [k0_pay30, pos_apply, neg_apply, Scalar.select, id, eWT, zero_sub]

/-- A chunk's rows are added eight apart into the eight partial sums. -/
theorem sum_apply (acc : Spec.A2 8 512) (g : Spec.A2 512 512) (a : IVec S512x512 1) (k : Fin 8) (j : Fin 512) :
    k0_pay23 (F := Ideal) acc g a (ix2 k j) = acc (ix2 k j)
      + ∑ q : Fin 64, if a (ix2 ⟨q.val * 8 + k.val, by omega⟩ j) = 1 then g (ix2 ⟨q.val * 8 + k.val, by omega⟩ j) else 0 := by
  pointwise [k0_pay23, Scalar.select, id]

/-- The last chunk's are added likewise, and the eight partial sums together. -/
theorem fin_apply (acc : Spec.A2 8 512) (g : Spec.A2 512 512) (a : IVec S512x512 1) (j : Fin 512) :
    k0_pay31 (F := Ideal) acc g a (ix2 0 j) = ∑ k : Fin 8, k0_pay23 (F := Ideal) acc g a (ix2 k j) := by
  pointwise [k0_pay31, k0_pay23]

/-- The last chunk's negated sum for the negative scale. -/
theorem finn_apply (acc : Spec.A2 8 512) (g : Spec.A2 512 512) (a : IVec S512x512 1) (j : Fin 512) :
    k0_pay32 (F := Ideal) acc g a (ix2 0 j) = -∑ k : Fin 8, k0_pay23 (F := Ideal) acc g a (ix2 k j) := by
  pointwise [k0_pay32, k0_pay23, zero_sub]

/-! The casts and reshapes that change nothing. -/

/-- The cast of the fp8 codes is the identity over the extended reals. -/
theorem pay5_id (dy : Spec.A2 1280 512) : k0_pay5 (F := Ideal) dy = dy := by
  funext i; pointwise [k0_pay5]
/-- The row of thresholds is used as loaded. -/
theorem pay6_id (d : Spec.A2 1 512) : k0_pay6 (F := Ideal) d = d := by
  funext i; pointwise [k0_pay6]
/-- The eight partial sums start at zero. -/
theorem pay9_zero (k : Fin 8) (j : Fin 512) : k0_pay9 (F := Ideal) (ix2 k j) = 0 := by
  pointwise [k0_pay9]

/-- The first chunk of the latent weights' gradient is computed as the last one is. -/
theorem pay14_eq (s : EReal) (dy : Spec.A2 1280 512) (x : Spec.A2 512 1280) (d p n : Spec.A2 1 512) (w : Spec.A2 512 512) :
    k0_pay14 (F := Ideal) s dy d p n x w
      = k0_pay29 (F := Ideal) (k0_pay25 (F := Ideal) s (k0_pay5 (F := Ideal) dy) x)
          (k0_pay28 (F := Ideal) (k0_pay6 (F := Ideal) d) (k0_pay7 (F := Ideal) p) (k0_pay8 (F := Ideal) n) w) := rfl

/-! The three chunks together. -/

/-- Row `r` of chunk `k`. -/
def row (k : Fin 3) (r : Fin 512) : Fin 1536 := ⟨k.val * 512 + r.val, by omega⟩

/-- Row `r` of the first chunk of the transposed inputs is row `r` of the first third. -/
theorem xt0_apply (x : Spec.A2 1536 1280) (r : Fin 512) (i : Fin 1280) : xt0 (F := Ideal) x (ix2 r i) = x (ix2 (row 0 r) i) := by
  unfold xt0
  refine View.ld_unit_apply_of _ _ _ _ _ _ fun a => ?_
  fin_cases a <;> simp [ix2, row]
/-- The same for the second chunk. -/
theorem xt1_apply (x : Spec.A2 1536 1280) (r : Fin 512) (i : Fin 1280) : xt1 (F := Ideal) x (ix2 r i) = x (ix2 (row 1 r) i) := by
  unfold xt1
  refine View.ld_unit_apply_of _ _ _ _ _ _ fun a => ?_
  fin_cases a <;> simp [ix2, row]
/-- The same for the last chunk. -/
theorem xt2_apply (x : Spec.A2 1536 1280) (r : Fin 512) (i : Fin 1280) : xt2 (F := Ideal) x (ix2 r i) = x (ix2 (row 2 r) i) := by
  unfold xt2
  refine View.ld_unit_apply_of _ _ _ _ _ _ fun a => ?_
  fin_cases a <;> simp [ix2, row]
/-- Row `r` of the first chunk of the weights is row `r` of the first third. -/
theorem w0_apply (w : Spec.A2 1536 512) (r j : Fin 512) : w0 (F := Ideal) w (ix2 r j) = w (ix2 (row 0 r) j) := by
  unfold w0
  refine View.ld_unit_apply_of _ _ _ _ _ _ fun a => ?_
  fin_cases a <;> simp [ix2, row]
/-- The same for the second chunk. -/
theorem w1_apply (w : Spec.A2 1536 512) (r j : Fin 512) : w1 (F := Ideal) w (ix2 r j) = w (ix2 (row 1 r) j) := by
  unfold w1
  refine View.ld_unit_apply_of _ _ _ _ _ _ fun a => ?_
  fin_cases a <;> simp [ix2, row]
/-- The same for the last chunk. -/
theorem w2_apply (w : Spec.A2 1536 512) (r j : Fin 512) : w2 (F := Ideal) w (ix2 r j) = w (ix2 (row 2 r) j) := by
  unfold w2
  refine View.ld_unit_apply_of _ _ _ _ _ _ fun a => ?_
  fin_cases a <;> simp [ix2, row]

/-- Three stored row chunks read back at an entry. -/
theorem canon3 {e : EltTy} (P0 P1 P2 : S512x512.Idx → Elt Ideal e) (G : Fin 1536 → Fin 512 → Elt Ideal e)
    (h0 : ∀ r j, P0 (ix2 r j) = G (row 0 r) j) (h1 : ∀ r j, P1 (ix2 r j) = G (row 1 r) j) (h2 : ∀ r j, P2 (ix2 r j) = G (row 2 r) j)
    (r : Fin 1536) (j : Fin 512) :
    View.canon (s := S1536x512) (e := e) (Val := Elt Ideal) [⟨Rect.unit (s := S1536x512) ![1024, 0] S512x512.size inb_S1536x512_S512x512_1024_0, P2⟩,
      ⟨Rect.unit (s := S1536x512) ![512, 0] S512x512.size inb_S1536x512_S512x512_512_0, P1⟩,
      ⟨Rect.unit (s := S1536x512) ![0, 0] S512x512.size inb_S1536x512_S512x512_0_0, P0⟩] (ix2 r j) = G r j := by
  have key : ∀ (k : Fin 3) (P : S512x512.Idx → Elt Ideal e), (∀ r j, P (ix2 r j) = G (row k r) j) →
      View.TileAt (S := S1536x512) (e := e) (Val := Elt Ideal) (ix2 r j) ![k.val * 512, 0] S512x512.size P (G r j) := by
    intro k P hP x hx
    have hr : r = row k (x 0) := Fin.ext (hx 0)
    have hj : j = x 1 := Fin.ext ((hx 1).trans (Nat.zero_add _))
    rw [hr, hj]
    exact (congrArg P (ix2_eta x).symm).trans (hP (x 0) (x 1))
  refine View.canon_eq_of_allAt _ _ _ (View.cover_of_tiled_head _ _ _ (by rfl) _) ?_
  exact (View.allAt_cons_unit _ _ _ _ _ (key 2 P2 h2) (View.allAt_cons_unit _ _ _ _ _ (key 1 P1 h1)
      (View.allAt_cons_unit _ _ _ _ _ (key 0 P0 h0) (View.allAt_nil _ _))))

/-- The eight partial sums over the three chunks add up to the sum over all rows. -/
theorem sum_rows (f : Fin 1536 → EReal) :
    (∑ k : Fin 8, (((0 + ∑ q : Fin 64, f (row 0 ⟨q.val * 8 + k.val, by omega⟩)) + ∑ q : Fin 64, f (row 1 ⟨q.val * 8 + k.val, by omega⟩))
      + ∑ q : Fin 64, f (row 2 ⟨q.val * 8 + k.val, by omega⟩))) = ∑ r : Fin 1536, f r := by
  have chunk : ∀ c : Fin 3, (∑ k : Fin 8, ∑ q : Fin 64, f (row c ⟨q.val * 8 + k.val, by omega⟩)) = ∑ r : Fin 512, f (row c r) := fun c =>
    Finset.sum_comm.trans (Fin.sum_univ_tiles 64 8 rfl fun r => f (row c r)).symm
  rw [Fin.sum_univ_tiles 3 512 rfl f, Fin.sum_univ_three]
  simp only [zero_add, Finset.sum_add_distrib, chunk]
  rfl

variable (s : EReal) (dy : Spec.A2 1280 512) (w : Spec.A2 1536 512) (d p n : Spec.A2 1 512) (x : Spec.A2 1536 1280)

/-- A chunk's masks and dense gradient are the whole block's at its rows. -/
theorem chunk_pos {k : Fin 3} {wc : Spec.A2 512 512} (hw : ∀ r j, wc (ix2 r j) = w (ix2 (row k r) j)) (r j : Fin 512) :
    bPos wc d r j = bPos w d (row k r) j := by simp only [bPos, hw]
/-- A chunk's lower mask is the block's at the chunk's rows. -/
theorem chunk_neg {k : Fin 3} {wc : Spec.A2 512 512} (hw : ∀ r j, wc (ix2 r j) = w (ix2 (row k r) j)) (r j : Fin 512) :
    bNeg wc d r j = bNeg w d (row k r) j := by simp only [bNeg, hw]
/-- A chunk's latent gradient is the block's at the chunk's rows. -/
theorem chunk_g {k : Fin 3} {xc : Spec.A2 512 1280} (hx : ∀ r i, xc (ix2 r i) = x (ix2 (row k r) i)) (r j : Fin 512) :
    bG s dy xc r j = bG s dy x (row k r) j := by simp only [bG, hx]

/-- The latent weights' gradient block at an entry. -/
theorem bDW_apply (r : Fin 1536) (j : Fin 512) : bDW (F := Ideal) s dy w d p n x (ix2 r j) = eDW s dy w d p n x r j := by
  have key : ∀ {k : Fin 3} {xc : Spec.A2 512 1280} {wc : Spec.A2 512 512}, (∀ r i, xc (ix2 r i) = x (ix2 (row k r) i)) →
      (∀ r j, wc (ix2 r j) = w (ix2 (row k r) j)) → ∀ r j : Fin 512,
      k0_pay29 (F := Ideal) (k0_pay25 (F := Ideal) s (k0_pay5 (F := Ideal) dy) xc)
          (k0_pay28 (F := Ideal) (k0_pay6 (F := Ideal) d) (k0_pay7 (F := Ideal) p) (k0_pay8 (F := Ideal) n) wc) (ix2 r j)
        = eDW s dy w d p n x (row k r) j := by
    intro k xc wc hx hw r j
    rw [pay5_id, pay6_id, show k0_pay7 (F := Ideal) p = p from pay6_id p, show k0_pay8 (F := Ideal) n = n from pay6_id n, dw_apply]
    simp only [eDW, chunk_pos w d hw, chunk_neg w d hw, chunk_g s dy x hx]
  exact canon3 (e := .f32) _ _ _ (eDW s dy w d p n x) (key (xt0_apply x) (w0_apply w)) (key (xt1_apply x) (w1_apply w)) (key (xt2_apply x) (w2_apply w)) r j

/-- The ternary weights' block at an entry. -/
theorem bWT_apply (r : Fin 1536) (j : Fin 512) : bWT (F := Ideal) w d p n (ix2 r j) = eWT w d p n r j := by
  have key : ∀ {k : Fin 3} {wc : Spec.A2 512 512}, (∀ r j, wc (ix2 r j) = w (ix2 (row k r) j)) → ∀ r j : Fin 512,
      k0_pay30 (F := Ideal) (k0_pay7 (F := Ideal) p) (k0_pay8 (F := Ideal) n) (k0_pay26 (F := Ideal) (k0_pay6 (F := Ideal) d) wc)
        (k0_pay27 (F := Ideal) (k0_pay6 (F := Ideal) d) wc) (ix2 r j) = eWT w d p n (row k r) j := by
    intro k wc hw r j
    rw [pay6_id, show k0_pay7 (F := Ideal) p = p from pay6_id p, show k0_pay8 (F := Ideal) n = n from pay6_id n, wt_apply]
    simp only [eWT, chunk_pos w d hw, chunk_neg w d hw]
  exact canon3 (e := .bf16) _ _ _ (eWT w d p n) (key (w0_apply w)) (key (w1_apply w)) (key (w2_apply w)) r j

/-- The positive scales' gradient row at a column. -/
theorem bDWP_apply (j : Fin 512) : bDWP (F := Ideal) s dy w d x (ix2 0 j) = ∑ r : Fin 1536, if bPos w d r j = 1 then bG s dy x r j else 0 := by
  rw [← sum_rows]
  refine (fin_apply _ _ _ j).trans (Finset.sum_congr rfl fun k _ => ?_)
  rw [sum_apply]
  refine congrArg₂ _ ((sum_apply _ (k0_pay25 (F := Ideal) s (k0_pay5 (F := Ideal) dy) (xt1 (F := Ideal) x)) (k0_pay26 (F := Ideal) (k0_pay6 (F := Ideal) d) (w1 (F := Ideal) w)) k j).trans
    (congrArg₂ _ ((sum_apply _ (k0_pay25 (F := Ideal) s (k0_pay5 (F := Ideal) dy) (xt0 (F := Ideal) x)) (k0_pay26 (F := Ideal) (k0_pay6 (F := Ideal) d) (w0 (F := Ideal) w)) k j).trans
      (congrArg₂ _ (pay9_zero k j) ?_)) ?_)) ?_
  all_goals
    rw [pay5_id, pay6_id]
    simp only [g_apply, pos_apply, chunk_pos w d (w0_apply w), chunk_pos w d (w1_apply w), chunk_pos w d (w2_apply w),
      chunk_g s dy x (xt0_apply x), chunk_g s dy x (xt1_apply x), chunk_g s dy x (xt2_apply x)]

/-- The negative scales' gradient row at a column. -/
theorem bDWN_apply (j : Fin 512) : bDWN (F := Ideal) s dy w d x (ix2 0 j) = -∑ r : Fin 1536, if bNeg w d r j = 1 then bG s dy x r j else 0 := by
  rw [← sum_rows]
  refine (finn_apply _ _ _ j).trans (congrArg _ (Finset.sum_congr rfl fun k _ => ?_))
  rw [sum_apply]
  refine congrArg₂ _ ((sum_apply _ (k0_pay25 (F := Ideal) s (k0_pay5 (F := Ideal) dy) (xt1 (F := Ideal) x)) (k0_pay27 (F := Ideal) (k0_pay6 (F := Ideal) d) (w1 (F := Ideal) w)) k j).trans
    (congrArg₂ _ ((sum_apply _ (k0_pay25 (F := Ideal) s (k0_pay5 (F := Ideal) dy) (xt0 (F := Ideal) x)) (k0_pay27 (F := Ideal) (k0_pay6 (F := Ideal) d) (w0 (F := Ideal) w)) k j).trans
      (congrArg₂ _ (pay9_zero k j) ?_)) ?_)) ?_
  all_goals
    rw [pay5_id, pay6_id]
    simp only [g_apply, neg_apply, chunk_neg w d (w0_apply w), chunk_neg w d (w1_apply w), chunk_neg w d (w2_apply w),
      chunk_g s dy x (xt0_apply x), chunk_g s dy x (xt1_apply x), chunk_g s dy x (xt2_apply x)]

/-- One step of the accumulator at an entry. -/
theorem bAcc_apply (acc : Spec.A2 1280 1536) (i : Fin 1280) (r : Fin 1536) :
    bAcc (F := Ideal) dy w d p n acc (ix2 i r) = acc (ix2 i r) + ∑ j : Fin 512, dy (ix2 i j) * eWT w d p n r j := by
  unfold bAcc
  rw [pay5_id]
  pointwise [k0_pay1, bWT_apply]

/-- The stored inputs' gradient, the transposed inputs and the zeroed accumulator at an entry. -/
theorem dx_apply (acc : Spec.A2 1280 1536) (i : Fin 1280) (r : Fin 1536) : k0_pay2 (F := Ideal) s acc (ix2 i r) = acc (ix2 i r) * s := by
  pointwise [k0_pay2]
/-- The first scratch holds the inputs transposed. -/
theorem xt_apply (x : Spec.A2 1280 1536) (i : Fin 1280) (r : Fin 1536) : k0_pay3 (F := Ideal) x (ix2 r i) = x (ix2 i r) := by
  pointwise [k0_pay3]
/-- The accumulator starts at zero. -/
theorem z_apply (i : Fin 1280) (r : Fin 1536) : k0_pay4 (F := Ideal) (ix2 i r) = 0 := by
  pointwise [k0_pay4]

/-- The scale is its block's one entry. -/
theorem sc_apply (b : Spec.A2 1 1) : sc (F := Ideal) b = b (ix2 0 0) := by
  unfold sc
  refine View.ld_unit_apply_of _ _ _ _ _ _ fun a => ?_
  fin_cases a <;> rfl

end Cert.KernelIdeal.KValue

end
-- ==== Proof.KRun.lean ====
/-
  The kernel's run over the extended reals: its four results are the functions of Spec.lean of the seven arguments. The
  scratches carried from point to point are followed by induction, each point's blocks are read against the argument
  arrays, and the arrays the points write are put together; the reshapes around the region are read off last.
-/
module

public import proofs.«01_k».proof.Proof.KPoint
public import Idealize.ShloMosaic.Lib.StableHlo.Run
public import Idealize.ShloMosaic.Lib.Pipeline.FrameSuffix

@[expose] public section

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-! The arguments: the inputs, the outputs' gradient, the scale, the latent weights, the thresholds and the two scales. -/

/-- The inputs. -/
abbrev aX : Spec.A3 5 256 1536 := m ((c.tc : Thread nD τ).loc main_arg0)
/-- The fp8 codes of the outputs' gradient. -/
abbrev aDY : Spec.A3 5 256 4608 := m ((c.tc : Thread nD τ).loc main_arg1)
/-- The codes' scale. -/
abbrev aS : Spec.A0 := m ((c.tc : Thread nD τ).loc main_arg2)
/-- The latent weights. -/
abbrev aW : Spec.A2 1536 4608 := m ((c.tc : Thread nD τ).loc main_arg3)
/-- The thresholds, one for each column. -/
abbrev aD : Spec.A1 4608 := m ((c.tc : Thread nD τ).loc main_arg4)
/-- The positive scales. -/
abbrev aP : Spec.A1 4608 := m ((c.tc : Thread nD τ).loc main_arg5)
/-- The negative scales. -/
abbrev aN : Spec.A1 4608 := m ((c.tc : Thread nD τ).loc main_arg6)

/-! The reshapes around the region. -/

/-- Token `t` of batch entry `b`, in the flat order of the 1280 tokens. -/
def tok (b : Fin 5) (t : Fin 256) : Fin 1280 := ⟨b.val * 256 + t.val, by omega⟩

/-- The first window reads the scale as a one-entry matrix. -/
theorem V_main_v0 : V m c main_v0 = shapeCast S1x1 (aS m c) shapeCasts_S_S1x1 := by
  show StableHlo.after (List.flatten [hostOps0]) (fun b => m (c, b)) (Proc.devRef .tc main_v0) = _
  simp only [hostOps0, List.flatten_cons, List.flatten_nil, List.append_nil, List.cons_append, List.nil_append]
  after_results_simp; rfl
/-- The second window reads the inputs with the tokens flat. -/
theorem V_main_v1 : V m c main_v1 = shapeCast S1280x1536 (aX m c) shapeCasts_S5x256x1536_S1280x1536 := by
  show StableHlo.after (List.flatten [hostOps0]) (fun b => m (c, b)) (Proc.devRef .tc main_v1) = _
  simp only [hostOps0, List.flatten_cons, List.flatten_nil, List.append_nil, List.cons_append, List.nil_append]
  after_results_simp; rfl
/-- The third window reads the codes with the tokens flat. -/
theorem V_main_v2 : V m c main_v2 = shapeCast S1280x4608 (aDY m c) shapeCasts_S5x256x4608_S1280x4608 := by
  show StableHlo.after (List.flatten [hostOps0]) (fun b => m (c, b)) (Proc.devRef .tc main_v2) = _
  simp only [hostOps0, List.flatten_cons, List.flatten_nil, List.append_nil, List.cons_append, List.nil_append]
  after_results_simp; rfl
/-- The fifth window reads the thresholds as a row. -/
theorem V_main_v3 : V m c main_v3 = shapeCast S1x4608 (aD m c) shapeCasts_S4608_S1x4608 := by
  show StableHlo.after (List.flatten [hostOps0]) (fun b => m (c, b)) (Proc.devRef .tc main_v3) = _
  simp only [hostOps0, List.flatten_cons, List.flatten_nil, List.append_nil, List.cons_append, List.nil_append]
  after_results_simp; rfl
/-- The sixth window reads the positive scales as a row. -/
theorem V_main_v4 : V m c main_v4 = shapeCast S1x4608 (aP m c) shapeCasts_S4608_S1x4608 := by
  show StableHlo.after (List.flatten [hostOps0]) (fun b => m (c, b)) (Proc.devRef .tc main_v4) = _
  simp only [hostOps0, List.flatten_cons, List.flatten_nil, List.append_nil, List.cons_append, List.nil_append]
  after_results_simp; rfl
/-- The seventh window reads the negative scales as a row. -/
theorem V_main_v5 : V m c main_v5 = shapeCast S1x4608 (aN m c) shapeCasts_S4608_S1x4608 := by
  show StableHlo.after (List.flatten [hostOps0]) (fun b => m (c, b)) (Proc.devRef .tc main_v5) = _
  simp only [hostOps0, List.flatten_cons, List.flatten_nil, List.append_nil, List.cons_append, List.nil_append]
  after_results_simp; rfl

/-- The scale's reshape at its entry. -/
theorem re_s (s : Spec.A0) : shapeCast S1x1 s shapeCasts_S_S1x1 (ix2 0 0) = s ix0 := by
  pointwise
/-- The inputs at a flat token. -/
theorem re_x (x : Spec.A3 5 256 1536) (b : Fin 5) (t : Fin 256) (r : Fin 1536) :
    shapeCast S1280x1536 x shapeCasts_S5x256x1536_S1280x1536 (ix2 (tok b t) r) = x (ix3 b t r) := by
  pointwise [tok]
/-- The codes at a flat token. -/
theorem re_dy (x : Spec.A3 5 256 4608) (b : Fin 5) (t : Fin 256) (r : Fin 4608) :
    shapeCast S1280x4608 x shapeCasts_S5x256x4608_S1280x4608 (ix2 (tok b t) r) = x (ix3 b t r) := by
  pointwise [tok]
/-- A vector laid out as a row. -/
theorem re_row (d : Spec.A1 4608) (j : Fin 4608) : shapeCast S1x4608 d shapeCasts_S4608_S1x4608 (ix2 0 j) = d (ix1 j) := by
  pointwise
/-- The inputs' gradient back from flat tokens. -/
theorem re_out (x : Spec.A2 1280 1536) (b : Fin 5) (t : Fin 256) (r : Fin 1536) :
    shapeCast S5x256x1536 x shapeCasts_S1280x1536_S5x256x1536 (ix3 b t r) = x (ix2 (tok b t) r) := by
  pointwise [tok]
/-- A row back to a vector. -/
theorem re_vec (d : Spec.A2 1 4608) (j : Fin 4608) : shapeCast S4608 d shapeCasts_S1x4608_S4608 (ix1 j) = d (ix2 0 j) := by
  pointwise

/-! The blocks a point reads. -/

/-- Column `j` of point `t`'s 512. -/
def col (t : Fin cfg0.N) (j : Fin 512) : Fin 4608 := ⟨t.val * 512 + j.val, by have h : t.val < 9 := t.isLt.trans_eq N_0; omega⟩

/-- The windows of the scale, the inputs and the inputs' gradient stay where they are. -/
theorem idx01 : ∀ t : Fin cfg0.N, (∀ a, win0_0.index t a = 0) ∧ (∀ a, win0_1.index t a = 0) ∧ ∀ a, win0_7.index t a = 0 :=
  (by decide +kernel : ∀ t : Fin grid0.N, _)
/-- The other windows move along the columns, one block of 512 at each point. -/
theorem idxs : ∀ t : Fin cfg0.N, win0_2.index t = ![0, t.val] ∧ win0_3.index t = ![0, t.val] ∧ win0_4.index t = ![0, t.val]
    ∧ win0_5.index t = ![0, t.val] ∧ win0_6.index t = ![0, t.val] ∧ win0_8.index t = ![0, t.val] ∧ win0_9.index t = ![0, t.val]
    ∧ win0_10.index t = ![0, t.val] :=
  (by decide +kernel : ∀ t : Fin grid0.N, _)

/-- An index whose coordinates are those of `ix2 r j`. -/
theorem ix2_of {a b : ℕ} {i : (⟨2, ![a, b]⟩ : Shape).Idx} {r : Fin a} {j : Fin b} (h0 : (i 0).val = r.val) (h1 : (i 1).val = j.val) : i = ix2 r j := by
  funext k
  match k with
  | ⟨0, _⟩ => exact Fin.ext h0
  | ⟨1, _⟩ => exact Fin.ext h1

variable (t : Fin cfg0.N)

/-- Every point reads the same scale. -/
theorem blk_s : iblk m c 0 t (ix2 0 0) = aS m c ix0 := by
  refine (congrArg (V m c main_v0) (ix2_of (r := (0 : Fin 1)) (j := (0 : Fin 1)) ?_ ?_)).trans ((congrFun (V_main_v0 m c) _).trans (re_s _))
  · show win0_0.index t (0 : Fin 2) * 1 + 1 * 0 = 0; rw [(idx01 t).1]
  · show win0_0.index t (1 : Fin 2) * 1 + 1 * 0 = 0; rw [(idx01 t).1]

/-- The inputs' block is the whole array, at every point. -/
theorem blk_x : iblk m c 1 t = V m c main_v1 := by
  funext y
  refine congrArg (V m c main_v1) ((ix2_of (r := (y 0 : Fin 1280)) (j := (y 1 : Fin 1536)) ?_ ?_).trans (ix2_eta (n0 := 1280) (n1 := 1536) y))
  · show win0_1.index t (0 : Fin 2) * 1280 + 1 * (y 0).val = _; rw [(idx01 t).2.1]; omega
  · show win0_1.index t (1 : Fin 2) * 1536 + 1 * (y 1).val = _; rw [(idx01 t).2.1]; omega

/-- A point's codes are its columns of the flat codes. -/
theorem blk_dy (i : Fin 1280) (j : Fin 512) : iblk m c 2 t (ix2 i j) = V m c main_v2 (ix2 i (col t j)) := by
  refine congrArg (V m c main_v2) (ix2_of (r := i) (j := col t j) ?_ ?_)
  · show win0_2.index t (0 : Fin 2) * 1280 + 1 * i.val = _; rw [(idxs t).1]; show 0 * 1280 + 1 * i.val = _; omega
  · show win0_2.index t (1 : Fin 2) * 512 + 1 * j.val = _; rw [(idxs t).1]; show t.val * 512 + 1 * j.val = t.val * 512 + j.val; omega

/-- A point's latent weights are its columns of the weights. -/
theorem blk_w (r : Fin 1536) (j : Fin 512) : iblk m c 3 t (ix2 r j) = aW m c (ix2 r (col t j)) := by
  refine (congrArg (V m c main_arg3) (ix2_of (r := r) (j := col t j) ?_ ?_)).trans (congrFun (V_main_arg3 m c) _)
  · show win0_3.index t (0 : Fin 2) * 1536 + 1 * r.val = _; rw [(idxs t).2.1]; show 0 * 1536 + 1 * r.val = _; omega
  · show win0_3.index t (1 : Fin 2) * 512 + 1 * j.val = _; rw [(idxs t).2.1]; show t.val * 512 + 1 * j.val = t.val * 512 + j.val; omega

/-- A point's thresholds are those of its columns. -/
theorem blk_d (j : Fin 512) : iblk m c 4 t (ix2 0 j) = aD m c (ix1 (col t j)) := by
  refine (congrArg (V m c main_v3) (ix2_of (r := (0 : Fin 1)) (j := col t j) ?_ ?_)).trans ((congrFun (V_main_v3 m c) _).trans (re_row _ _))
  · show win0_4.index t (0 : Fin 2) * 1 + 1 * 0 = 0; rw [(idxs t).2.2.1]; rfl
  · show win0_4.index t (1 : Fin 2) * 512 + 1 * j.val = _; rw [(idxs t).2.2.1]; show t.val * 512 + 1 * j.val = t.val * 512 + j.val; omega

/-- A point's positive scales are those of its columns. -/
theorem blk_p (j : Fin 512) : iblk m c 5 t (ix2 0 j) = aP m c (ix1 (col t j)) := by
  refine (congrArg (V m c main_v4) (ix2_of (r := (0 : Fin 1)) (j := col t j) ?_ ?_)).trans ((congrFun (V_main_v4 m c) _).trans (re_row _ _))
  · show win0_5.index t (0 : Fin 2) * 1 + 1 * 0 = 0; rw [(idxs t).2.2.2.1]; rfl
  · show win0_5.index t (1 : Fin 2) * 512 + 1 * j.val = _; rw [(idxs t).2.2.2.1]; show t.val * 512 + 1 * j.val = t.val * 512 + j.val; omega

/-- A point's negative scales are those of its columns. -/
theorem blk_n (j : Fin 512) : iblk m c 6 t (ix2 0 j) = aN m c (ix1 (col t j)) := by
  refine (congrArg (V m c main_v5) (ix2_of (r := (0 : Fin 1)) (j := col t j) ?_ ?_)).trans ((congrFun (V_main_v5 m c) _).trans (re_row _ _))
  · show win0_6.index t (0 : Fin 2) * 1 + 1 * 0 = 0; rw [(idxs t).2.2.2.2.1]; rfl
  · show win0_6.index t (1 : Fin 2) * 512 + 1 * j.val = _; rw [(idxs t).2.2.2.2.1]; show t.val * 512 + 1 * j.val = t.val * 512 + j.val; omega

/-! A point's entries are the specification's at its columns. -/

/-- A point's upper mask is the specification's at its columns. -/
theorem pos_col (r : Fin 1536) (j : Fin 512) : bPos (iblk m c 3 t) (iblk m c 4 t) r j = Spec.pos (aW m c) (aD m c) r (col t j) :=
  congrArg₂ (Ideal.cmp .ogt) (blk_w m c t r j) (blk_d m c t j)
/-- A point's lower mask is the specification's at its columns. -/
theorem neg_col (r : Fin 1536) (j : Fin 512) : bNeg (iblk m c 3 t) (iblk m c 4 t) r j = Spec.neg (aW m c) (aD m c) r (col t j) :=
  congrArg₂ (Ideal.cmp .olt) (blk_w m c t r j) (congrArg (fun z : EReal => -z) (blk_d m c t j))

/-- A point's ternary weights are the specification's at its columns. -/
theorem wt_col (r : Fin 1536) (j : Fin 512) :
    eWT (iblk m c 3 t) (iblk m c 4 t) (iblk m c 5 t) (iblk m c 6 t) r j = Spec.wt (aW m c) (aD m c) (aP m c) (aN m c) r (col t j) := by
  unfold eWT Spec.wt
  rw [pos_col, neg_col, blk_p, blk_n]

/-- The transposed inputs, as the first point leaves them. -/
abbrev xT : Spec.A2 1536 1280 := k0_pay3 (F := Ideal) (V m c main_v1)

/-- A point's latent gradient is the specification's at its columns: the flat sum over 1280 tokens is the double sum over batch and sequence. -/
theorem g_col (r : Fin 1536) (j : Fin 512) :
    bG (sc (F := Ideal) (iblk m c 0 t)) (iblk m c 2 t) (xT m c) r j = Spec.grad (aX m c) (aDY m c) (aS m c ix0) r (col t j) := by
  unfold bG Spec.grad
  rw [sc_apply, blk_s, Fin.sum_univ_tiles 5 256 rfl]
  refine congrArg (· * _) (Finset.sum_congr rfl fun b _ => Finset.sum_congr rfl fun u _ => ?_)
  have hx : xT m c (ix2 r (tok b u)) = aX m c (ix3 b u r) :=
    (xt_apply _ _ _).trans ((congrFun (V_main_v1 m c) _).trans (re_x _ _ _ _))
  have hy : iblk m c 2 t (ix2 (tok b u) j) = aDY m c (ix3 b u (col t j)) :=
    (blk_dy m c t _ _).trans ((congrFun (V_main_v2 m c) _).trans (re_dy _ _ _ _))
  exact congrArg₂ (fun u v : EReal => u * v) hx hy

/-- A point's block of the latent weights' gradient. -/
theorem dw_col (r : Fin 1536) (j : Fin 512) :
    bDW (F := Ideal) (sc (iblk m c 0 t)) (iblk m c 2 t) (iblk m c 3 t) (iblk m c 4 t) (iblk m c 5 t) (iblk m c 6 t) (xT m c) (ix2 r j)
      = Spec.dw (aX m c) (aDY m c) (aS m c ix0) (aW m c) (aD m c) (aP m c) (aN m c) r (col t j) := by
  rw [bDW_apply]
  unfold eDW Spec.dw
  rw [pos_col, neg_col, g_col, blk_p, blk_n]
/-- A point's block of the positive scales' gradient. -/
theorem dwp_col (j : Fin 512) :
    bDWP (F := Ideal) (sc (iblk m c 0 t)) (iblk m c 2 t) (iblk m c 3 t) (iblk m c 4 t) (xT m c) (ix2 0 j)
      = Spec.dwp (aX m c) (aDY m c) (aS m c ix0) (aW m c) (aD m c) (col t j) := by
  rw [bDWP_apply]
  unfold Spec.dwp
  exact Finset.sum_congr rfl fun r _ => by rw [pos_col, g_col]
/-- A point's block of the negative scales' gradient. -/
theorem dwn_col (j : Fin 512) :
    bDWN (F := Ideal) (sc (iblk m c 0 t)) (iblk m c 2 t) (iblk m c 3 t) (iblk m c 4 t) (xT m c) (ix2 0 j)
      = Spec.dwn (aX m c) (aDY m c) (aS m c ix0) (aW m c) (aD m c) (col t j) := by
  rw [bDWN_apply]
  unfold Spec.dwn
  exact congrArg (fun z : EReal => -z) (Finset.sum_congr rfl fun r _ => by rw [neg_col, g_col])

/-! The scratches, from point to point. -/

/-- The outputs' gradient over the flat tokens. -/
abbrev fDY : Spec.A2 1280 4608 := V m c main_v2

/-- Point `k`'s share of the inputs' gradient before the scale. -/
def share (k : ℕ) (i : Fin 1280) (r : Fin 1536) : EReal :=
  if h : k < cfg0.N then ∑ j : Fin 512, fDY m c (ix2 i (col ⟨k, h⟩ j)) * Spec.wt (aW m c) (aD m c) (aP m c) (aN m c) r (col ⟨k, h⟩ j) else 0

/-- One step of the accumulator adds the point's share. -/
theorem acc_step (acc : Spec.A2 1280 1536) (i : Fin 1280) (r : Fin 1536) :
    bAcc (F := Ideal) (iblk m c 2 t) (iblk m c 3 t) (iblk m c 4 t) (iblk m c 5 t) (iblk m c 6 t) acc (ix2 i r) = acc (ix2 i r) + share m c t.val i r := by
  rw [bAcc_apply]
  unfold share
  rw [dif_pos t.isLt]
  refine congrArg _ (Finset.sum_congr rfl fun j _ => ?_)
  rw [wt_col]
  exact congrArg (fun z : EReal => z * _) (blk_dy m c t i j)

/-- Any point but the first works on what the one before left. -/
theorem outs_step (h0 : ¬t.val % 9 = 0) :
    (outsAt0 m c t.val t.isLt).2 = pt (iblk m c 0 t) (iblk m c 2 t) (iblk m c 3 t) (iblk m c 4 t) (iblk m c 5 t) (iblk m c 6 t)
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  by_cases h1 : t.val % 9 = 8
  · exact outs_C m c t h0 h1
  · exact outs_B m c t h0 h1

/-- The first point leaves the transposed inputs in the first scratch. -/
theorem x_first (h0 : t.val % 9 = 0) : (outsAt0 m c t.val t.isLt).2.2.2.2.1 = xT m c :=
  (congrArg (fun z => z.2.2.2.1) (outs_A m c t h0 (by omega))).trans (congrArg (fun z => k0_pay3 (F := Ideal) z) (blk_x m c t))
/-- The first point leaves its own share in the accumulator. -/
theorem acc_first (h0 : t.val % 9 = 0) (i : Fin 1280) (r : Fin 1536) :
    (outsAt0 m c t.val t.isLt).2.2.2.2.2 (ix2 i r) = share m c t.val i r :=
  (congrFun (congrArg (fun z => z.2.2.2.2) (outs_A m c t h0 (by omega))) (ix2 i r)).trans
    ((acc_step m c t (k0_pay4 (F := Ideal)) i r).trans ((congrArg (fun z : EReal => z + _) (z_apply i r)).trans (zero_add _)))
/-- Later points leave the transposed inputs alone. -/
theorem x_step (h0 : ¬t.val % 9 = 0) : (outsAt0 m c t.val t.isLt).2.2.2.2.1
    = (outsAt0 m c (t.val - 1) (Nat.lt_of_le_of_lt (Nat.sub_le _ _) t.isLt)).2.2.2.2.1 :=
  congrArg (fun z => z.2.2.2.1) (outs_step m c t h0)
/-- Later points add their share to the accumulator. -/
theorem acc_next (h0 : ¬t.val % 9 = 0) (i : Fin 1280) (r : Fin 1536) : (outsAt0 m c t.val t.isLt).2.2.2.2.2 (ix2 i r)
    = (outsAt0 m c (t.val - 1) (Nat.lt_of_le_of_lt (Nat.sub_le _ _) t.isLt)).2.2.2.2.2 (ix2 i r) + share m c t.val i r :=
  (congrFun (congrArg (fun z => z.2.2.2.2) (outs_step m c t h0)) (ix2 i r)).trans (acc_step m c t _ i r)

/-- After each point the first scratch holds the transposed inputs and the accumulator the shares so far. -/
theorem state : ∀ (n : ℕ) (hn : n < cfg0.N), (outsAt0 m c n hn).2.2.2.2.1 = xT m c
    ∧ ∀ (i : Fin 1280) (r : Fin 1536), (outsAt0 m c n hn).2.2.2.2.2 (ix2 i r) = ∑ k ∈ Finset.range (n + 1), share m c k i r
  | 0, hn => ⟨x_first m c ⟨0, hn⟩ rfl, fun i r => (acc_first m c ⟨0, hn⟩ rfl i r).trans (Finset.sum_range_one (fun k => share m c k i r)).symm⟩
  | n + 1, hn => by
    have h9 : n + 1 < 9 := hn.trans_eq N_0
    have h0 : ¬(n + 1) % 9 = 0 := by omega
    obtain ⟨ih0, ih1⟩ := state n (Nat.lt_of_succ_lt hn)
    refine ⟨(x_step m c ⟨n + 1, hn⟩ h0).trans ih0, fun i r => (acc_next m c ⟨n + 1, hn⟩ h0 i r).trans ?_⟩
    rw [Finset.sum_range_succ, ← ih1 i r]
    rfl

/-- So every point leaves in the windows it writes every time what it computes from the transposed inputs. -/
theorem outs_all : ∃ acc, (outsAt0 m c t.val t.isLt).2 = pt (iblk m c 0 t) (iblk m c 2 t) (iblk m c 3 t) (iblk m c 4 t) (iblk m c 5 t) (iblk m c 6 t) (xT m c) acc := by
  by_cases h0 : t.val % 9 = 0
  · exact ⟨k0_pay4 (F := Ideal), (outs_A m c t h0 (by omega)).trans (by rw [blk_x])⟩
  · exact ⟨(outsAt0 m c (t.val - 1) (Nat.lt_of_le_of_lt (Nat.sub_le _ _) t.isLt)).2.2.2.2.2, (outs_step m c t h0).trans (by rw [(state m c (t.val - 1) (Nat.lt_of_le_of_lt (Nat.sub_le _ _) t.isLt)).1])⟩

/-! The arrays after the run. -/

/-- The latent weights' gradient. -/
abbrev G8 : Spec.A2 1536 4608 := Spec.DW (aX m c) (aDY m c) (aS m c) (aW m c) (aD m c) (aP m c) (aN m c)
/-- The positive scales' gradient, as a row. -/
abbrev G9 : Spec.A2 1 4608 := fun i => Spec.dwp (aX m c) (aDY m c) (aS m c ix0) (aW m c) (aD m c) (i 1)
/-- The negative scales' gradient, as a row. -/
abbrev G10 : Spec.A2 1 4608 := fun i => Spec.dwn (aX m c) (aDY m c) (aS m c ix0) (aW m c) (aD m c) (i 1)
/-- The inputs' gradient over the flat tokens. -/
abbrev G7 : Spec.A2 1280 1536 := fun i =>
  (∑ j : Fin 4608, fDY m c (ix2 (i 0) j) * Spec.wt (aW m c) (aD m c) (aP m c) (aN m c) (i 1) j) * aS m c ix0

/-- The point whose columns hold column `j`. -/
def ptOf (j : Fin 4608) : Fin cfg0.N := ⟨j.val / 512, by rw [show cfg0.N = 9 from N_0]; omega⟩

/-- Every point writes windows 8, 9 and 10 back; the last writes window 7. -/
theorem flushes : ∀ t : Fin cfg0.N, win0_8.flush t = true ∧ win0_9.flush t = true ∧ win0_10.flush t = true :=
  (by decide +kernel : ∀ t : Fin grid0.N, _)

/-- The latent weights' gradient is put together from the nine blocks of columns. -/
theorem final8 : (dats m 0 c).arrAt 8 cfg0.N = G8 m c := by
  refine (dats m 0 c).arrAt_eq_of_cover 8 _ (fun t _ => ?_) fun i => ⟨ptOf (i 1), (flushes _).1, ?_⟩
  · show (cfg0.win 8).cut (grid0.coords t) ((dats m 0 c).after 8 t) = _
    obtain ⟨acc, e⟩ := outs_all m c t
    rw [after0_8, show (outsAt0 m c t.val t.isLt).2.1 = bDW (F := Ideal) (sc (iblk m c 0 t)) (iblk m c 2 t) (iblk m c 3 t) (iblk m c 4 t)
      (iblk m c 5 t) (iblk m c 6 t) (xT m c) by rw [e]; dsimp only [pt]]
    funext y
    have hi : ((cfg0.win 8).blk t).view.emb y = ix2 (y 0 : Fin 1536) (col t (y 1)) := ix2_of
      (by show win0_8.index t (0 : Fin 2) * 1536 + 1 * (y 0).val = _; rw [(idxs t).2.2.2.2.2.1]; show 0 * 1536 + 1 * (y 0).val = _; omega)
      (by show win0_8.index t (1 : Fin 2) * 512 + 1 * (y 1).val = _; rw [(idxs t).2.2.2.2.2.1]; show t.val * 512 + 1 * (y 1).val = t.val * 512 + (y 1).val; omega)
    refine Eq.trans ?_ (congrArg (G8 m c) hi).symm
    have hx : (cfg0.win 8).xinj (grid0.coords t) y = ix2 (y 0 : Fin 1536) (y 1 : Fin 512) := ix2_of rfl rfl
    exact (congrArg (bDW (F := Ideal) (sc (iblk m c 0 t)) (iblk m c 2 t) (iblk m c 3 t) (iblk m c 4 t) (iblk m c 5 t) (iblk m c 6 t) (xT m c)) hx).trans (dw_col m c t (y 0) (y 1))
  · show i ∈ ((View.whole main_v6_1).slice (win0_8.rect (ptOf (i 1)))).set
    rw [View.set_slice_whole, Rect.mem_set_unit]
    intro a
    show win0_8.index (ptOf (i 1)) a * S1536x512.size a ≤ (i a).val ∧ (i a).val < win0_8.index (ptOf (i 1)) a * S1536x512.size a + S1536x512.size a
    rw [(idxs _).2.2.2.2.2.1]
    have h0 : (i 0).val < 1536 := (i 0).isLt
    match a with
    | ⟨0, _⟩ => show 0 * 1536 ≤ (i 0).val ∧ (i 0).val < 0 * 1536 + 1536; omega
    | ⟨1, _⟩ => show (i 1).val / 512 * 512 ≤ (i 1).val ∧ (i 1).val < (i 1).val / 512 * 512 + 512; omega

/-- So is the positive scales' gradient. -/
theorem final9 : (dats m 0 c).arrAt 9 cfg0.N = G9 m c := by
  refine (dats m 0 c).arrAt_eq_of_cover 9 _ (fun t _ => ?_) fun i => ⟨ptOf (i 1), (flushes _).2.1, ?_⟩
  · show (cfg0.win 9).cut (grid0.coords t) ((dats m 0 c).after 9 t) = _
    obtain ⟨acc, e⟩ := outs_all m c t
    rw [after0_9, e]
    funext y
    have hi : ((cfg0.win 9).blk t).view.emb y 1 = col t (y 1) := Fin.ext
      (by show win0_9.index t (1 : Fin 2) * 512 + 1 * (y 1).val = _; rw [(idxs t).2.2.2.2.2.2.1]; show t.val * 512 + 1 * (y 1).val = t.val * 512 + (y 1).val; omega)
    refine Eq.trans ?_ (congrArg (Spec.dwp (aX m c) (aDY m c) (aS m c ix0) (aW m c) (aD m c)) hi).symm
    exact (congrArg (bDWP (F := Ideal) _ _ _ _ _) (ix2_of (r := (0 : Fin 1)) (j := (y 1 : Fin 512)) (Nat.lt_one_iff.mp (y 0).isLt) rfl)).trans (dwp_col m c t (y 1))
  · show i ∈ ((View.whole main_v6_2).slice (win0_9.rect (ptOf (i 1)))).set
    rw [View.set_slice_whole, Rect.mem_set_unit]
    intro a
    show win0_9.index (ptOf (i 1)) a * S1x512.size a ≤ (i a).val ∧ (i a).val < win0_9.index (ptOf (i 1)) a * S1x512.size a + S1x512.size a
    rw [(idxs _).2.2.2.2.2.2.1]
    have h0 : (i 0).val < 1 := (i 0).isLt
    match a with
    | ⟨0, _⟩ => show 0 * 1 ≤ (i 0).val ∧ (i 0).val < 0 * 1 + 1; omega
    | ⟨1, _⟩ => show (i 1).val / 512 * 512 ≤ (i 1).val ∧ (i 1).val < (i 1).val / 512 * 512 + 512; omega

/-- So is the negative scales' gradient. -/
theorem final10 : (dats m 0 c).arrAt 10 cfg0.N = G10 m c := by
  refine (dats m 0 c).arrAt_eq_of_cover 10 _ (fun t _ => ?_) fun i => ⟨ptOf (i 1), (flushes _).2.2, ?_⟩
  · show (cfg0.win 10).cut (grid0.coords t) ((dats m 0 c).after 10 t) = _
    obtain ⟨acc, e⟩ := outs_all m c t
    rw [after0_10, e]
    funext y
    have hi : ((cfg0.win 10).blk t).view.emb y 1 = col t (y 1) := Fin.ext
      (by show win0_10.index t (1 : Fin 2) * 512 + 1 * (y 1).val = _; rw [(idxs t).2.2.2.2.2.2.2]; show t.val * 512 + 1 * (y 1).val = t.val * 512 + (y 1).val; omega)
    refine Eq.trans ?_ (congrArg (Spec.dwn (aX m c) (aDY m c) (aS m c ix0) (aW m c) (aD m c)) hi).symm
    exact (congrArg (bDWN (F := Ideal) _ _ _ _ _) (ix2_of (r := (0 : Fin 1)) (j := (y 1 : Fin 512)) (Nat.lt_one_iff.mp (y 0).isLt) rfl)).trans (dwn_col m c t (y 1))
  · show i ∈ ((View.whole main_v6_3).slice (win0_10.rect (ptOf (i 1)))).set
    rw [View.set_slice_whole, Rect.mem_set_unit]
    intro a
    show win0_10.index (ptOf (i 1)) a * S1x512.size a ≤ (i a).val ∧ (i a).val < win0_10.index (ptOf (i 1)) a * S1x512.size a + S1x512.size a
    rw [(idxs _).2.2.2.2.2.2.2]
    have h0 : (i 0).val < 1 := (i 0).isLt
    match a with
    | ⟨0, _⟩ => show 0 * 1 ≤ (i 0).val ∧ (i 0).val < 0 * 1 + 1; omega
    | ⟨1, _⟩ => show (i 1).val / 512 * 512 ≤ (i 1).val ∧ (i 1).val < (i 1).val / 512 * 512 + 512; omega

/-- All nine shares together are the contraction over all columns. -/
theorem shares (i : Fin 1280) (r : Fin 1536) : ∑ k ∈ Finset.range 9, share m c k i r
    = ∑ j : Fin 4608, fDY m c (ix2 i j) * Spec.wt (aW m c) (aD m c) (aP m c) (aN m c) r j := by
  rw [Fin.sum_univ_tiles 9 512 rfl, Finset.sum_range]
  refine Finset.sum_congr rfl fun k _ => ?_
  unfold share
  rw [dif_pos (k.isLt.trans_eq N_0.symm)]
  rfl

/-- The inputs' gradient, written by the last point, is the whole contraction over the columns, scaled. -/
theorem final7 : (dats m 0 c).arrAt 7 cfg0.N = G7 m c := by
  have h8 : 8 < cfg0.N := lt_of_lt_of_eq (by decide) N_0.symm
  refine (dats m 0 c).arrAt_eq_of_cover 7 _ (fun t hf => ?_) fun i => ⟨⟨8, h8⟩, (flush0_7 _).mpr rfl, ?_⟩
  · show (cfg0.win 7).cut (grid0.coords t) ((dats m 0 c).after 7 t) = _
    have hm : t.val % 9 = 8 := (flush0_7 t).mp hf
    have h9 : t.val < 9 := t.isLt.trans_eq N_0
    rw [after0_7, out7_C m c t (by omega) hm]
    funext y
    have hi : ((cfg0.win 7).blk t).view.emb y = ix2 (y 0 : Fin 1280) (y 1 : Fin 1536) := ix2_of
      (by show win0_7.index t (0 : Fin 2) * 1280 + 1 * (y 0).val = _; rw [(idx01 t).2.2]; omega)
      (by show win0_7.index t (1 : Fin 2) * 1536 + 1 * (y 1).val = _; rw [(idx01 t).2.2]; omega)
    refine Eq.trans ?_ (congrArg (G7 m c) hi).symm
    refine (congrArg (k0_pay2 (F := Ideal) _ _) (ix2_eta (n0 := 1280) (n1 := 1536) _).symm).trans ((dx_apply _ _ (y 0) (y 1)).trans ?_)
    rw [sc_apply, blk_s]
    refine congrArg (fun z : EReal => z * _) ?_
    refine (acc_step m c t _ (y 0) (y 1)).trans ?_
    rw [(state m c (t.val - 1) (Nat.lt_of_le_of_lt (Nat.sub_le _ _) t.isLt)).2 (y 0) (y 1), show t.val - 1 + 1 = t.val by omega,
      ← Finset.sum_range_succ, show t.val + 1 = 9 by omega]
    exact shares m c (y 0) (y 1)
  · show i ∈ ((View.whole main_v6_0).slice (win0_7.rect ⟨8, h8⟩)).set
    rw [View.set_slice_whole, Rect.mem_set_unit]
    intro a
    show win0_7.index ⟨8, h8⟩ a * S1280x1536.size a ≤ (i a).val ∧ (i a).val < win0_7.index ⟨8, h8⟩ a * S1280x1536.size a + S1280x1536.size a
    rw [(idx01 _).2.2, Nat.zero_mul, Nat.zero_add]
    exact ⟨Nat.zero_le _, (i a).isLt⟩

/-! The reshapes after the region, and the run. -/

/-- The contents of the buffers the region leaves. -/
abbrev exitV : Valuation τ sig (Elt Ideal) :=
  Pipeline.withArrays (cfgs 0).spec c (V0 m c) fun w => (dats m 0 c).arrAt w (cfgs 0).N

/-- The first result, after the reshape back to batch and sequence. -/
theorem fin_main_v7 : Pipeline.afterTail₀ cfgs (dats m) 0 (V0 m) [hostOps1] c main_v7
    = Spec.DX (aDY m c) (aS m c) (aW m c) (aD m c) (aP m c) (aN m c) := by
  have e : exitV m c (Proc.devRef .tc main_v6_0) = G7 m c := (Pipeline.withArrays_arr spec0 launch0.win.arr_inj c (V0 m c) _ 7).trans (final7 m c)
  have h : Pipeline.afterTail₀ cfgs (dats m) 0 (V0 m) [hostOps1] c main_v7
      = shapeCast S5x256x1536 (exitV m c (Proc.devRef .tc main_v6_0)) shapeCasts_S1280x1536_S5x256x1536 := by
    unfold Pipeline.afterTail₀
    simp only [hostOps1, List.flatten_cons, List.flatten_nil, List.append_nil, List.cons_append, List.nil_append]
    after_results_simp; rfl
  rw [h, e]
  funext i
  refine (congrArg _ (ix3_eta i).symm).trans ((re_out _ (i 0) (i 1) (i 2)).trans (congrArg (fun z : EReal => z * _) (Finset.sum_congr rfl fun j _ => ?_)))
  exact congrArg (fun z : EReal => z * _) ((congrFun (V_main_v2 m c) _).trans (re_dy _ _ _ _))

/-- The third result, after the reshape to a vector. -/
theorem fin_main_v8 : Pipeline.afterTail₀ cfgs (dats m) 0 (V0 m) [hostOps1] c main_v8
    = Spec.DWP (aX m c) (aDY m c) (aS m c) (aW m c) (aD m c) := by
  have e : exitV m c (Proc.devRef .tc main_v6_2) = G9 m c := (Pipeline.withArrays_arr spec0 launch0.win.arr_inj c (V0 m c) _ 9).trans (final9 m c)
  have h : Pipeline.afterTail₀ cfgs (dats m) 0 (V0 m) [hostOps1] c main_v8
      = shapeCast S4608 (exitV m c (Proc.devRef .tc main_v6_2)) shapeCasts_S1x4608_S4608 := by
    unfold Pipeline.afterTail₀
    simp only [hostOps1, List.flatten_cons, List.flatten_nil, List.append_nil, List.cons_append, List.nil_append]
    after_results_simp; rfl
  rw [h, e]
  funext i
  exact (congrArg _ (ix1_eta i).symm).trans (re_vec _ (i 0))

/-- The fourth result, after the reshape to a vector. -/
theorem fin_main_v9 : Pipeline.afterTail₀ cfgs (dats m) 0 (V0 m) [hostOps1] c main_v9
    = Spec.DWN (aX m c) (aDY m c) (aS m c) (aW m c) (aD m c) := by
  have e : exitV m c (Proc.devRef .tc main_v6_3) = G10 m c := (Pipeline.withArrays_arr spec0 launch0.win.arr_inj c (V0 m c) _ 10).trans (final10 m c)
  have h : Pipeline.afterTail₀ cfgs (dats m) 0 (V0 m) [hostOps1] c main_v9
      = shapeCast S4608 (exitV m c (Proc.devRef .tc main_v6_3)) shapeCasts_S1x4608_S4608 := by
    unfold Pipeline.afterTail₀
    simp only [hostOps1, List.flatten_cons, List.flatten_nil, List.append_nil, List.cons_append, List.nil_append]
    after_results_simp; rfl
  rw [h, e]
  funext i
  exact (congrArg _ (ix1_eta i).symm).trans (re_vec _ (i 0))

variable (ρ : Dev nD → PrngReg)

/-- The kernel's run: its four results are the four functions of the arguments, and the arguments are unchanged. -/
theorem run : θ_run defs (onTc (τ := τ) (main (F := Ideal))) ⟨m, fun _ => 0, ρ⟩ fun r => ∀ c : Dev nD,
      r.2.mem ((c.tc : Thread nD τ).loc main_v7) = Spec.DX (aDY m c) (aS m c) (aW m c) (aD m c) (aP m c) (aN m c)
      ∧ r.2.mem ((c.tc : Thread nD τ).loc main_v6_1) = Spec.DW (aX m c) (aDY m c) (aS m c) (aW m c) (aD m c) (aP m c) (aN m c)
      ∧ r.2.mem ((c.tc : Thread nD τ).loc main_v8) = Spec.DWP (aX m c) (aDY m c) (aS m c) (aW m c) (aD m c)
      ∧ r.2.mem ((c.tc : Thread nD τ).loc main_v9) = Spec.DWN (aX m c) (aDY m c) (aS m c) (aW m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (run_main m ρ)
  have rest := fun (b : Ref sig .tc) hb => (h c).2 b hb
  exact ⟨(rest main_v7 (Pipeline.mem_restRefs_of main_v7 (by decide) (by decide))).trans (fin_main_v7 m c),
    ((h c).1 8).trans (final8 m c),
    (rest main_v8 (Pipeline.mem_restRefs_of main_v8 (by decide) (by decide))).trans (fin_main_v8 m c),
    (rest main_v9 (Pipeline.mem_restRefs_of main_v9 (by decide) (by decide))).trans (fin_main_v9 m c),
    (rest main_arg0 (Pipeline.mem_restRefs_of main_arg0 (by decide) (by decide))).trans (W_main_arg0 m (dats m) c),
    (rest main_arg1 (Pipeline.mem_restRefs_of main_arg1 (by decide) (by decide))).trans (W_main_arg1 m (dats m) c),
    (rest main_arg2 (Pipeline.mem_restRefs_of main_arg2 (by decide) (by decide))).trans (W_main_arg2 m (dats m) c),
    ((h c).1 3).trans (((dats m 0 c).arrAt_in 3 rfl _).trans ((A_eq m c 3).trans (V_main_arg3 m c))),
    (rest main_arg4 (Pipeline.mem_restRefs_of main_arg4 (by decide) (by decide))).trans (W_main_arg4 m (dats m) c),
    (rest main_arg5 (Pipeline.mem_restRefs_of main_arg5 (by decide) (by decide))).trans (W_main_arg5 m (dats m) c),
    (rest main_arg6 (Pipeline.mem_restRefs_of main_arg6 (by decide) (by decide))).trans (W_main_arg6 m (dats m) c)⟩

end Cert.KernelIdeal.KValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.RefValue
public import proofs.«01_k».proof.Proof.KRun
public import Idealize.ShloMosaic.Adequacy
public import Idealize.ShloMosaic.Init

@[expose] public section

noncomputable section

namespace Cert.Proof

open Idealize.ShloMosaic Idealize.SL.Sem Cert.Kernel

/-- Both programs' four results are the same functions of the arguments. -/
theorem algebraic : Cert.algebraic_KernelIdeal_ReferenceIdeal := by
  intro m g m' g' _ hin
  refine ⟨_, _, _, _, KernelIdeal.KValue.run m g, ?_⟩
  refine (θ_run ReferenceIdeal.defs _ _).mono (fun _ h c => ?_) (ReferenceIdeal.RefValue.run m' g')
  obtain ⟨e0, e1, e2, e3, e4, e5, e6⟩ := hin c
  obtain ⟨r0, r1, r2, r3, hargs⟩ := h c
  rw [e1, e2, e3, e4, e5, e6] at r0
  rw [e0, e1, e2, e3, e4, e5, e6] at r1
  rw [e0, e1, e2, e3, e4] at r2 r3
  exact ⟨r0, r1, r2, r3, hargs⟩

/-- The five claims: the three frames, the ideal copy's relation to the kernel, and the equality of results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
